-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x1x62x64 : Shape := ⟨4, ![4096, 1, 62, 64]⟩
abbrev S64x64 : Shape := ⟨2, ![64, 64]⟩
abbrev S64 : Shape := ⟨1, ![64]⟩
abbrev S_ : Shape := ⟨0, ![]⟩

class Facts : Prop where
  bcast_S_S4096x1x62x64 : S_.BroadcastsInDim S4096x1x62x64 (![] : Fin 0 → Fin S4096x1x62x64.rank)
  bcast_S_S64x64 : S_.BroadcastsInDim S64x64 (![] : Fin 0 → Fin S64x64.rank)
  bcast_S_S64 : S_.BroadcastsInDim S64 (![] : Fin 0 → Fin S64.rank)

variable [Facts]

def fn {F : FTy → Type} [FloatOps F] (main_arg0 : FVec F S4096x1x62x64 .f32) (main_arg1 : FVec F S64x64 .f32) (main_arg2 : FVec F S64 .f32) (main_arg3 : FVec F S64 .f32) (main_arg4 : FVec F S64 .f32) : IVec S4096x1x62x64 1 × IVec S64x64 1 × IVec S64 1 × IVec S64 1 :=
  let main_v0 : FVec F S4096x1x62x64 .f32 := Host.absf main_arg0
  let main_cst : FVec F S_ .f32 := constant S_ .f32 0x7F800000#32
  let main_v1 : FVec F S4096x1x62x64 .f32 := broadcastInDim S4096x1x62x64 ![] bcast_S_S4096x1x62x64 main_cst
  let main_v2 : IVec S4096x1x62x64 1 := cmpf .olt main_v0 main_v1
  let main_v3 : FVec F S64x64 .f32 := Host.absf main_arg1
  let main_cst_0 : FVec F S_ .f32 := constant S_ .f32 0x7F800000#32
  let main_v4 : FVec F S64x64 .f32 := broadcastInDim S64x64 ![] bcast_S_S64x64 main_cst_0
  let main_v5 : IVec S64x64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  (main_v2, main_v5, main_v8, main_v11)
-- ==== Kernel.lean ====
abbrev S4096x1x62x64 : Shape := ⟨4, ![4096, 1, 62, 64]⟩
abbrev S64x64 : Shape := ⟨2, ![64, 64]⟩
abbrev S64 : Shape := ⟨1, ![64]⟩
abbrev S1x64 : Shape := ⟨2, ![1, 64]⟩
abbrev S512x1x62x64 : Shape := ⟨4, ![512, 1, 62, 64]⟩
abbrev S1x1x62x64 : Shape := ⟨4, ![1, 1, 62, 64]⟩
abbrev S62x64 : Shape := ⟨2, ![62, 64]⟩
abbrev S62 : Shape := ⟨1, ![62]⟩
abbrev S62x1 : Shape := ⟨2, ![62, 1]⟩
abbrev S1x62 : Shape := ⟨2, ![1, 62]⟩
abbrev S62x62 : Shape := ⟨2, ![62, 62]⟩

abbrev nBuf : Space → Nat
  | .hbm => 13
  | .vmem => 8
  | .smem => 0
  | _ => 0

abbrev bufTy : (tb : Table) → Fin (tcTables nBuf tb) → BufTy
  | .hbm, ⟨0, _⟩ => ⟨S4096x1x62x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S4096x1x62x64, .bf16⟩
  | .hbm, ⟨6, _⟩ => ⟨S64x64, .f32⟩
  | .hbm, ⟨7, _⟩ => ⟨S64x64, .bf16⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S4096x1x62x64, .bf16⟩
  | .hbm, ⟨12, _⟩ => ⟨S4096x1x62x64, .f32⟩
  | .local _ .vmem, ⟨0, _⟩ => ⟨S512x1x62x64, .bf16⟩
  | .local _ .vmem, ⟨1, _⟩ => ⟨S512x1x62x64, .bf16⟩
  | .local _ .vmem, ⟨2, _⟩ => ⟨S64x64, .bf16⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S512x1x62x64, .bf16⟩
  | .local _ .vmem, ⟨7, _⟩ => ⟨S512x1x62x64, .bf16⟩
  | _, _ => ⟨S4096x1x62x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1x62x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1x62x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x1x62x64 : Shape := ⟨4, ![4096, 1, 62, 64]⟩
abbrev S64x64 : Shape := ⟨2, ![64, 64]⟩
abbrev S64 : Shape := ⟨1, ![64]⟩
abbrev S253952x64 : Shape := ⟨2, ![253952, 64]⟩
abbrev S3782 : Shape := ⟨1, ![3782]⟩
abbrev S_ : Shape := ⟨0, ![]⟩
abbrev S253952 : Shape := ⟨1, ![253952]⟩
abbrev S257734 : Shape := ⟨1, ![257734]⟩
abbrev S257734x1 : Shape := ⟨2, ![257734, 1]⟩
abbrev S3782x1 : Shape := ⟨2, ![3782, 1]⟩
abbrev S62 : Shape := ⟨1, ![62]⟩
abbrev S1x62 : Shape := ⟨2, ![1, 62]⟩
abbrev S3782x62 : Shape := ⟨2, ![3782, 62]⟩
abbrev S253890 : Shape := ⟨1, ![253890]⟩
abbrev S257734x64 : Shape := ⟨2, ![257734, 64]⟩
abbrev S1x64 : Shape := ⟨2, ![1, 64]⟩
abbrev S4096x62x64 : Shape := ⟨3, ![4096, 62, 64]⟩

abbrev nBuf : Space → Nat
  | .hbm => 134
  | .vmem => 0
  | .smem => 0
  | _ => 0

abbrev hbmTy0_0 (i : Nat) : BufTy := match i % 128 with
  | 0 => ⟨S4096x1x62x64, .f32⟩
  | 1 => ⟨S64x64, .f32⟩
  | 2 => ⟨S64, .f32⟩
  | 3 => ⟨S64, .f32⟩
  | 4 => ⟨S64, .f32⟩
  | 5 => ⟨S253952x64, .f32⟩
  | 6 => ⟨S3782, .i32⟩
  | 7 => ⟨S_, .i32⟩
  | 8 => ⟨S3782, .i32⟩
  | 9 => ⟨S3782, .i32⟩
  | 10 => ⟨S_, .i32⟩
  | 11 => ⟨S3782, .i32⟩
  | 12 => ⟨S3782, .i32⟩
  | 13 => ⟨S3782, .i1⟩
  | 14 => ⟨S3782, .i32⟩
  | 15 => ⟨S3782, .i32⟩
  | 16 => ⟨S253952, .i32⟩
  | 17 => ⟨S257734, .i32⟩
  | 18 => ⟨S257734, .i32⟩
  | 19 => ⟨S64x64, .f32⟩
  | 20 => ⟨S253952x64, .f32⟩
  | 21 => ⟨S253952, .f32⟩
  | 22 => ⟨S253952, .f32⟩
  | 23 => ⟨S_, .i32⟩
  | 24 => ⟨S257734, .i32⟩
  | 25 => ⟨S257734, .i1⟩
  | 26 => ⟨S_, .i32⟩
  | 27 => ⟨S257734, .i32⟩
  | 28 => ⟨S257734, .i32⟩
  | 29 => ⟨S257734, .i32⟩
  | 30 => ⟨S257734x1, .i32⟩
  | 31 => ⟨S257734, .f32⟩
  | 32 => ⟨S_, .i32⟩
  | 33 => ⟨S257734, .i32⟩
  | 34 => ⟨S257734, .i1⟩
  | 35 => ⟨S_, .i32⟩
  | 36 => ⟨S257734, .i32⟩
  | 37 => ⟨S257734, .i32⟩
  | 38 => ⟨S257734, .i32⟩
  | 39 => ⟨S257734x1, .i32⟩
  | 40 => ⟨S257734, .f32⟩
  | 41 => ⟨S257734, .f32⟩
  | 42 => ⟨S_, .f32⟩
  | 43 => ⟨S_, .f32⟩
  | 44 => ⟨S257734, .f32⟩
  | 45 => ⟨S257734, .i1⟩
  | 46 => ⟨S_, .f32⟩
  | 47 => ⟨S257734, .f32⟩
  | 48 => ⟨S257734, .f32⟩
  | 49 => ⟨S257734, .f32⟩
  | 50 => ⟨S3782x1, .i32⟩
  | 51 => ⟨S62, .i32⟩
  | 52 => ⟨S1x62, .i32⟩
  | 53 => ⟨S3782x62, .i32⟩
  | 54 => ⟨S3782x62, .i32⟩
  | 55 => ⟨S3782x62, .i1⟩
  | 56 => ⟨S3782, .f32⟩
  | 57 => ⟨S3782x1, .f32⟩
  | 58 => ⟨S_, .f32⟩
  | 59 => ⟨S_, .f32⟩
  | 60 => ⟨S3782x62, .f32⟩
  | 61 => ⟨S3782x62, .f32⟩
  | 62 => ⟨S3782x62, .f32⟩
  | 63 => ⟨S253952, .f32⟩
  | 64 => ⟨S_, .f32⟩
  | 65 => ⟨S62, .f32⟩
  | 66 => ⟨S_, .f32⟩
  | 67 => ⟨S253890, .f32⟩
  | 68 => ⟨S253952, .f32⟩
  | 69 => ⟨S253952, .f32⟩
  | 70 => ⟨S_, .i32⟩
  | 71 => ⟨S257734, .i32⟩
  | 72 => ⟨S257734, .i1⟩
  | 73 => ⟨S_, .i32⟩
  | 74 => ⟨S257734, .i32⟩
  | 75 => ⟨S257734, .i32⟩
  | 76 => ⟨S257734, .i32⟩
  | 77 => ⟨S257734x1, .i32⟩
  | 78 => ⟨S257734, .f32⟩
  | 79 => ⟨S257734, .f32⟩
  | 80 => ⟨S257734, .f32⟩
  | 81 => ⟨S_, .f32⟩
  | 82 => ⟨S253952, .f32⟩
  | 83 => ⟨S257734x1, .i32⟩
  | 84 => ⟨S253952, .f32⟩
  | 85 => ⟨S_, .i32⟩
  | 86 => ⟨S253952, .i32⟩
  | 87 => ⟨S253952, .i1⟩
  | 88 => ⟨S_, .f32⟩
  | 89 => ⟨S_, .f32⟩
  | 90 => ⟨S253952, .f32⟩
  | 91 => ⟨S253952, .f32⟩
  | 92 => ⟨S253952, .f32⟩
  | 93 => ⟨S_, .i32⟩
  | 94 => ⟨S257734, .i32⟩
  | 95 => ⟨S257734, .i1⟩
  | 96 => ⟨S_, .i32⟩
  | 97 => ⟨S257734, .i32⟩
  | 98 => ⟨S257734, .i32⟩
  | 99 => ⟨S257734, .i32⟩
  | 100 => ⟨S257734x1, .i32⟩
  | 101 => ⟨S257734, .f32⟩
  | 102 => ⟨S_, .i32⟩
  | 103 => ⟨S257734, .i32⟩
  | 104 => ⟨S257734, .i1⟩
  | 105 => ⟨S_, .i32⟩
  | 106 => ⟨S257734, .i32⟩
  | 107 => ⟨S257734, .i32⟩
  | 108 => ⟨S257734, .i32⟩
  | 109 => ⟨S257734x1, .i32⟩
  | 110 => ⟨S257734, .f32⟩
  | 111 => ⟨S257734, .f32⟩
  | 112 => ⟨S257734, .f32⟩
  | 113 => ⟨S257734x1, .f32⟩
  | 114 => ⟨S_, .i32⟩
  | 115 => ⟨S257734, .i32⟩
  | 116 => ⟨S257734, .i1⟩
  | 117 => ⟨S_, .i32⟩
  | 118 => ⟨S257734, .i32⟩
  | 119 => ⟨S257734, .i32⟩
  | 120 => ⟨S257734, .i32⟩
  | 121 => ⟨S257734x1, .i32⟩
  | 122 => ⟨S257734x64, .f32⟩
  | 123 => ⟨S257734x64, .f32⟩
  | 124 => ⟨S257734x64, .f32⟩
  | 125 => ⟨S_, .f32⟩
  | 126 => ⟨S253952x64, .f32⟩
  | 127 => ⟨S257734x1, .i32⟩
  | _ => ⟨S4096x1x62x64, .f32⟩

abbrev hbmTy0_1 (i : Nat) : BufTy := match i % 128 with
  | 0 => ⟨S253952x64, .f32⟩
  | 1 => ⟨S1x64, .f32⟩
  | 2 => ⟨S253952x64, .f32⟩
  | 3 => ⟨S253952x64, .f32⟩
  | 4 => ⟨S4096x62x64, .f32⟩
  | 5 => ⟨S4096x1x62x64, .f32⟩
  | _ => ⟨S4096x1x62x64, .f32⟩

abbrev hbmTy (i : Nat) : BufTy := match i / 128 with
  | 0 => hbmTy0_0 i
  | 1 => hbmTy0_1 i
  | _ => ⟨S4096x1x62x64, .f32⟩

abbrev bufTy : (tb : Table) → Fin (tcTables nBuf tb) → BufTy
  | .hbm, ⟨i, _⟩ => hbmTy i
  | _, _ => ⟨S4096x1x62x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_11 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_cst_13 : Ref sig .tc := ⟨.hbm, 89, rfl⟩
abbrev main_call2_v0 : Ref sig .tc := ⟨.hbm, 90, rfl⟩
abbrev main_call2_v1 : Ref sig .tc := ⟨.hbm, 91, rfl⟩
abbrev main_v60 : Ref sig .tc := ⟨.hbm, 92, rfl⟩
abbrev main_c_14 : Ref sig .tc := ⟨.hbm, 93, rfl⟩
abbrev main_v61 : Ref sig .tc := ⟨.hbm, 94, rfl⟩
abbrev main_v62 : Ref sig .tc := ⟨.hbm, 95, rfl⟩
abbrev main_c_15 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_16 : Ref sig .tc := ⟨.hbm, 102, rfl⟩
abbrev main_v68 : Ref sig .tc := ⟨.hbm, 103, rfl⟩
abbrev main_v69 : Ref sig .tc := ⟨.hbm, 104, rfl⟩
abbrev main_c_17 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_18 : Ref sig .tc := ⟨.hbm, 114, rfl⟩
abbrev main_v78 : Ref sig .tc := ⟨.hbm, 115, rfl⟩
abbrev main_v79 : Ref sig .tc := ⟨.hbm, 116, rfl⟩
abbrev main_c_19 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_20 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩

abbrev nD : Nat := 1
abbrev τ : Topo := Topo.v7x

variable {F : FTy → Type} [FloatOps F]
-- ==== Proof.Layer.lean ====
/- The layer over the extended reals, at an index: the linear part of every sample, and the attention over the 62
   channels of the one sample that has edges. Both programs' values are stated by these functions. -/
module

public import Idealize.ShloMosaic.Lib.ValueIdx

@[expose] public section

noncomputable section

namespace Cert.Proof.Layer

open Idealize.ShloMosaic

/-- Rows times a transposed matrix: entry `(i, f)` is row `i` of `x` against row `f` of `w`. -/
def linear {n : ℕ} (x : Fin n → Fin 64 → EReal) (w : Fin 64 → Fin 64 → EReal) (i : Fin n) (f : Fin 64) : EReal :=
  ∑ k, x i k * w f k

/-- A channel's attention score: its features against the attention vector. -/
def score {n : ℕ} (h : Fin n → Fin 64 → EReal) (a : Fin 64 → EReal) (i : Fin n) : EReal := ∑ f, h i f * a f

/-- The leaky rectifier: the identity at and above zero, a fifth (its float word) of the argument below. -/
def leaky (v : EReal) : EReal := if 0 ≤ v then v else Ideal.ofBits .f32 0x3E4CCCCD#32 * v

/-- The logit of the edge from channel `i` to channel `j`. -/
def logit (s d : Fin 62 → EReal) (i j : Fin 62) : EReal := leaky (s i + d j)

/-- The greatest logit of the edges into channel `j`. -/
def top (s d : Fin 62 → EReal) (j : Fin 62) : EReal := Finset.univ.sup fun i => logit s d i j

/-- The exponential of an edge's logit, the greatest of its target taken off first. -/
def weight (s d : Fin 62 → EReal) (i j : Fin 62) : EReal := Ideal.exp (logit s d i j - top s d j)

/-- The attention coefficient of the edge from `i` to `j`: its weight over all weights into `j` plus 1e-16 (its word). -/
def coef (s d : Fin 62 → EReal) (i j : Fin 62) : EReal :=
  Ideal.div (weight s d i j) ((∑ i', weight s d i' j) + Ideal.ofBits .f32 0x24E69595#32)

/-- The attention output at channel `j`, feature `f`: every channel's features, weighted by the coefficients into `j`. -/
def attend (h : Fin 62 → Fin 64 → EReal) (ats atd : Fin 64 → EReal) (j : Fin 62) (f : Fin 64) : EReal :=
  ∑ i, coef (score h ats) (score h atd) i j * h i f

/-- The layer's output: attention on sample 0, the linear part alone on every other one, and the bias on all. -/
def out (x : Fin 4096 → Fin 62 → Fin 64 → EReal) (w : Fin 64 → Fin 64 → EReal) (ats atd bias : Fin 64 → EReal)
    (b : Fin 4096) (c : Fin 62) (f : Fin 64) : EReal :=
  (if b.val = 0 then attend (linear (x b) w) ats atd c f else linear (x b) w c f) + bias f

/-- Sample 0 is the attention plus the bias. -/
theorem out_zero (x : Fin 4096 → Fin 62 → Fin 64 → EReal) (w : Fin 64 → Fin 64 → EReal) (ats atd bias : Fin 64 → EReal)
    (b : Fin 4096) (c : Fin 62) (f : Fin 64) (h : b.val = 0) :
    out x w ats atd bias b c f = attend (linear (x b) w) ats atd c f + bias f := by
  unfold out
  rw [if_pos h]

/-- Every other sample is its linear part plus the bias. -/
theorem out_pos (x : Fin 4096 → Fin 62 → Fin 64 → EReal) (w : Fin 64 → Fin 64 → EReal) (ats atd bias : Fin 64 → EReal)
    (b : Fin 4096) (c : Fin 62) (f : Fin 64) (h : ¬ b.val = 0) :
    out x w ats atd bias b c f = linear (x b) w c f + bias f := by
  unfold out
  rw [if_neg h]

end Cert.Proof.Layer

end
-- ==== Proof.Payload.lean ====
/- What the kernel's body stores in one sample's slot, at an index: the linear part plus the bias in the plain slots,
   the attention over the sample's channels plus the bias in the attention slot. -/
module

public import proofs.«01_k».proof.Proof.Gen.KernelIdeal.Skeleton
public import proofs.«01_k».proof.Proof.Layer
public import Idealize.ShloMosaic.Lib.Pointwise

@[expose] public section

set_option maxRecDepth 16384

noncomputable section

namespace Cert.Proof.Payload

open Idealize.ShloMosaic Idealize.ShloMosaic.TcCoe Cert.KernelIdeal Cert.KernelIdeal.Gen

/-- The folded maximum from minus infinity is the supremum. -/
theorem fold_max_eq_sup {n : ℕ} (g : Fin n → EReal) :
    Finset.univ.fold max (Ideal.ofBits .f32 0xFF800000#32) g = Finset.univ.sup g := by
  rw [show Ideal.ofBits .f32 0xFF800000#32 = (⊥ : EReal) from by simp [Ideal.ofBits, Ideal.ieee]]
  rfl

/-- The body's matrix product at channel `i`, feature `f`. -/
theorem linear_apply (x : Vec Ideal S1x1x62x64 .bf16) (w : Vec Ideal S64x64 .bf16) (i : Fin 62) (f : Fin 64) :
    k0_pay3 x w (ix2 i f) = Layer.linear (fun c k => x (ix4 0 0 c k)) (fun f k => w (ix2 k f)) i f := by
  pointwise [k0_pay3, Layer.linear]

/-- A plain slot. -/
theorem plain_apply (bias : Vec Ideal S1x64 .f32) (x : Vec Ideal S1x1x62x64 .bf16) (w : Vec Ideal S64x64 .bf16)
    (c : Fin 62) (f : Fin 64) :
    k0_pay1 (k0_pay2 bias) x w (ix4 0 0 c f)
      = Layer.linear (fun c k => x (ix4 0 0 c k)) (fun f k => w (ix2 k f)) c f + bias (ix2 0 f) := by
  pointwise [k0_pay1, k0_pay2, Layer.linear]

/-- The attention slot. -/
theorem attend_apply (bias : Vec Ideal S1x64 .f32) (x : Vec Ideal S1x1x62x64 .bf16) (w : Vec Ideal S64x64 .bf16)
    (ats atd : Vec Ideal S1x64 .f32) (c : Fin 62) (f : Fin 64) :
    k0_pay4 bias x w ats atd (ix4 0 0 c f)
      = Layer.attend (Layer.linear (fun c k => x (ix4 0 0 c k)) (fun f k => w (ix2 k f)))
          (fun f => ats (ix2 0 f)) (fun f => atd (ix2 0 f)) c f + bias (ix2 0 f) := by
  unfold Layer.attend Layer.coef Layer.weight Layer.top Layer.logit Layer.score Layer.leaky
  pointwise [k0_pay4, k0_pay2, linear_apply, fold_max_eq_sup]

end Cert.Proof.Payload

end
-- ==== Proof.Block.lean ====
/- What one grid point leaves in the output's block: every sample's slot holds the linear part plus the bias, except
   slot 0 at the first point, which holds the attention over its 62 channels plus the bias. -/
module

public import proofs.«01_k».proof.Proof.Gen.KernelIdeal.Frame
public import proofs.«01_k».proof.Proof.Payload
public import Idealize.ShloMosaic.Lib.WritesUnit
public import Idealize.ShloMosaic.Lib.WholeRead

@[expose] public section

set_option maxRecDepth 16384

noncomputable section

namespace Cert.Proof.Block

open Idealize.ShloMosaic Idealize.ShloMosaic.TcCoe Idealize.ShloMosaic.Tactic Cert.KernelIdeal Cert.KernelIdeal.Gen

/-- A sample's slot lies inside the block. -/
theorem slot_inb (b : Fin 512) (a : Fin 4) : (![b.val, 0, 0, 0] : Fin 4 → ℕ) a + S1x1x62x64.size a ≤ S512x1x62x64.size a := by
  have := b.isLt
  match a with
  | ⟨0, _⟩ => show b.val + 1 ≤ 512; omega
  | ⟨1, _⟩ => show 0 + 1 ≤ 1; omega
  | ⟨2, _⟩ => show 0 + 62 ≤ 62; omega
  | ⟨3, _⟩ => show 0 + 64 ≤ 64; omega

section Pieces

variable {F : FTy → Type} [FloatOps F]
variable {c : Dev nD} {i : grid0.Coords} {arg1 : Memref sig .tc .vmem S512x1x62x64 .bf16} {harg1 : arg1.IsWhole}
  {arg2 : Memref sig .tc .vmem S64x64 .bf16} {harg2 : arg2.IsWhole} {arg3 : Memref sig .tc .vmem S1x64 .f32} {harg3 : arg3.IsWhole}
  {arg4 : Memref sig .tc .vmem S1x64 .f32} {harg4 : arg4.IsWhole} {arg5 : Memref sig .tc .vmem S1x64 .f32} {harg5 : arg5.IsWhole}
  {arg6 : Memref sig .tc .vmem S512x1x62x64 .bf16} {harg6 : arg6.IsWhole}

/-- Sample `b` of the input's block, as the body loads it. -/
def slot (harg1 : arg1.IsWhole) (x0 : Vec F S512x1x62x64 .bf16) (b : Fin 512) : Vec F S1x1x62x64 .bf16 :=
  View.readAt (Elt F) arg1.view (Rect.unit (s := S512x1x62x64) ![b.val, 0, 0, 0] S1x1x62x64.size (slot_inb b)).toLoadRect
    (harg1.unread x0)

/-- The matrix, as the body loads it. -/
def matrix (harg2 : arg2.IsWhole) (x1 : Vec F S64x64 .bf16) : Vec F S64x64 .bf16 :=
  View.readAt (Elt F) arg2.view (Rect.unit (s := S64x64) ![0, 0] S64x64.size inb_S64x64_S64x64_0_0).toLoadRect (harg2.unread x1)

/-- A row of 64 entries, as the body loads it. -/
def line {arg : Memref sig .tc .vmem S1x64 .f32} (harg : arg.IsWhole) (x : Vec F S1x64 .f32) : Vec F S1x64 .f32 :=
  View.readAt (Elt F) arg.view (Rect.unit (s := S1x64) ![0, 0] S1x64.size inb_S1x64_S1x64_0_0).toLoadRect (harg.unread x)

/-- The stores of every point but the first: one plain slot per sample. -/
theorem piecesB (hc0 hc1) (x0 : Vec F S512x1x62x64 .bf16) (x1 : Vec F S64x64 .bf16) (x2 x3 x4 : Vec F S1x64 .f32) :
    (kernelRun0_B c i arg1 harg1 arg2 harg2 arg3 harg3 arg4 harg4 arg5 harg5 arg6 harg6 hc0 hc1 x0 x1 x2 x3 x4).1
      = View.tilePieces (s := S512x1x62x64) S1x1x62x64.size (fun b : Fin 512 => ![b.val, 0, 0, 0]) slot_inb
          (fun b => k0_pay1 (k0_pay2 (line harg5 x4)) (slot harg1 x0 b) (matrix harg2 x1)) 512 le_rfl := by
  sl_kernel_rfl

/-- The stores of the first point: the attention slot for sample 0, a plain slot for every other sample. -/
theorem piecesA (hc0 hc1) (x0 : Vec F S512x1x62x64 .bf16) (x1 : Vec F S64x64 .bf16) (x2 x3 x4 : Vec F S1x64 .f32) :
    (kernelRun0_A c i arg1 harg1 arg2 harg2 arg3 harg3 arg4 harg4 arg5 harg5 arg6 harg6 hc0 hc1 x0 x1 x2 x3 x4).1
      = View.tilePieces (s := S512x1x62x64) S1x1x62x64.size (fun b : Fin 512 => ![b.val, 0, 0, 0]) slot_inb
          (fun b => if b.val = 0 then k0_pay4 (line harg5 x4) (slot harg1 x0 0) (matrix harg2 x1) (line harg3 x2) (line harg4 x3)
            else k0_pay1 (k0_pay2 (line harg5 x4)) (slot harg1 x0 b) (matrix harg2 x1)) 512 le_rfl := by
  sl_kernel_rfl

/-- A load of the whole row is the row. -/
theorem line_apply {arg : Memref sig .tc .vmem S1x64 .f32} (harg : arg.IsWhole) (x : Vec F S1x64 .f32) (f : Fin 64) :
    line harg x (ix2 0 f) = x (ix2 0 f) := by
  unfold line
  rw [harg.readAt_unread]
  congr 1
  funext a
  refine Fin.ext ?_
  match a with
  | ⟨0, _⟩ => rfl
  | ⟨1, _⟩ => show 0 + 1 * f.val = f.val; omega

/-- A load of the whole matrix is the matrix. -/
theorem matrix_apply (x : Vec F S64x64 .bf16) (k f : Fin 64) : matrix harg2 x (ix2 k f) = x (ix2 k f) := by
  unfold matrix
  rw [harg2.readAt_unread]
  congr 1
  funext a
  refine Fin.ext ?_
  match a with
  | ⟨0, _⟩ => show 0 + 1 * k.val = k.val; omega
  | ⟨1, _⟩ => show 0 + 1 * f.val = f.val; omega

/-- A load of sample `b` is the block at `b`. -/
theorem slot_apply (x : Vec F S512x1x62x64 .bf16) (b : Fin 512) (k : Fin 62) (f : Fin 64) :
    slot harg1 x b (ix4 0 0 k f) = x (ix4 b 0 k f) := by
  unfold slot
  rw [harg1.readAt_unread]
  congr 1
  funext a
  refine Fin.ext ?_
  match a with
  | ⟨0, _⟩ => show b.val + 1 * 0 = b.val; omega
  | ⟨1, _⟩ => rfl
  | ⟨2, _⟩ => show 0 + 1 * k.val = k.val; omega
  | ⟨3, _⟩ => show 0 + 1 * f.val = f.val; omega

/-- A block written by one store per sample, read at sample `b`: that sample's store. -/
theorem read_slots (P : Fin 512 → S1x1x62x64.Idx → Elt F .bf16) (v : View sig .tc .vmem S512x1x62x64 .bf16) (g) (b : Fin 512) (k : Fin 62) (f : Fin 64) :
    v.read (Elt F) (v.writes (Elt F) g (View.tilePieces (s := S512x1x62x64) S1x1x62x64.size
        (fun b : Fin 512 => ![b.val, 0, 0, 0]) slot_inb P 512 le_rfl)) (ix4 b 0 k f)
      = P b (ix4 0 0 k f) := by
  refine View.read_tilePieces v g S1x1x62x64.size _ slot_inb P 512 le_rfl (ix4 b 0 k f) b b.isLt (ix4 0 0 k f) ?_ 0 ?_
  · intro a
    match a with
    | ⟨0, _⟩ => show b.val = b.val + 0; omega
    | ⟨1, _⟩ => rfl
    | ⟨2, _⟩ => show k.val = 0 + k.val; omega
    | ⟨3, _⟩ => show f.val = 0 + f.val; omega
  · intro b' hb
    have hne : b'.val ≠ b.val := fun h => hb (Fin.ext h)
    show b.val < b'.val ∨ b'.val + 1 ≤ b.val
    omega

end Pieces

section Values

variable {c : Dev nD} {i : grid0.Coords} {arg1 : Memref sig .tc .vmem S512x1x62x64 .bf16} {harg1 : arg1.IsWhole}
  {arg2 : Memref sig .tc .vmem S64x64 .bf16} {harg2 : arg2.IsWhole} {arg3 : Memref sig .tc .vmem S1x64 .f32} {harg3 : arg3.IsWhole}
  {arg4 : Memref sig .tc .vmem S1x64 .f32} {harg4 : arg4.IsWhole} {arg5 : Memref sig .tc .vmem S1x64 .f32} {harg5 : arg5.IsWhole}
  {arg6 : Memref sig .tc .vmem S512x1x62x64 .bf16} {harg6 : arg6.IsWhole}

/-- Every point but the first: slot `b` holds sample `b`'s linear part plus the bias. -/
theorem outB_apply (hc0 hc1) (x0 : Vec Ideal S512x1x62x64 .bf16) (x1 : Vec Ideal S64x64 .bf16) (x2 x3 x4 : Vec Ideal S1x64 .f32)
    (b : Fin 512) (k : Fin 62) (f : Fin 64) :
    out0_B_5 c i arg1 harg1 arg2 harg2 arg3 harg3 arg4 harg4 arg5 harg5 arg6 harg6 hc0 hc1 x0 x1 x2 x3 x4 (ix4 b 0 k f)
      = Layer.linear (fun c k => x0 (ix4 b 0 c k)) (fun f k => x1 (ix2 k f)) k f + x4 (ix2 0 f) := by
  unfold out0_B_5
  rw [piecesB, read_slots, Payload.plain_apply]
  simp only [line_apply, matrix_apply, slot_apply]

/-- The first point: slot 0 holds the attention over sample 0's channels, every other slot the linear part; plus the bias. -/
theorem outA_apply (hc0 hc1) (x0 : Vec Ideal S512x1x62x64 .bf16) (x1 : Vec Ideal S64x64 .bf16) (x2 x3 x4 : Vec Ideal S1x64 .f32)
    (b : Fin 512) (k : Fin 62) (f : Fin 64) :
    out0_A_5 c i arg1 harg1 arg2 harg2 arg3 harg3 arg4 harg4 arg5 harg5 arg6 harg6 hc0 hc1 x0 x1 x2 x3 x4 (ix4 b 0 k f)
      = (if b.val = 0 then Layer.attend (Layer.linear (fun c k => x0 (ix4 b 0 c k)) (fun f k => x1 (ix2 k f)))
            (fun f => x2 (ix2 0 f)) (fun f => x3 (ix2 0 f)) k f
          else Layer.linear (fun c k => x0 (ix4 b 0 c k)) (fun f k => x1 (ix2 k f)) k f) + x4 (ix2 0 f) := by
  unfold out0_A_5
  rw [piecesA, read_slots]
  by_cases hb : b.val = 0
  · obtain rfl : b = 0 := Fin.ext hb
    rw [if_pos hb, if_pos hb, Payload.attend_apply]
    simp only [line_apply, matrix_apply, slot_apply]
  · rw [if_neg hb, if_neg hb, Payload.plain_apply]
    simp only [line_apply, matrix_apply, slot_apply]

end Values

end Cert.Proof.Block

end
-- ==== Proof.Array.lean ====
/- What the kernel's output array holds after the run: `Layer.out` of the argument arrays. -/
module

public import proofs.«01_k».proof.Proof.Block
public import Idealize.ShloMosaic.Lib.Pipeline.ValueKit

@[expose] public section

set_option maxRecDepth 16384

noncomputable section

namespace Cert.Proof.Array

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The layer's output over the five argument arrays. -/
def result (x : FVec Ideal S4096x1x62x64 .f32) (w : FVec Ideal S64x64 .f32) (ats atd bias : FVec Ideal S64 .f32) :
    FVec Ideal S4096x1x62x64 .f32 := fun j =>
  Layer.out (fun b c k => x (ix4 b 0 c k)) (fun f k => w (ix2 f k)) (fun f => ats (ix1 f)) (fun f => atd (ix1 f))
    (fun f => bias (ix1 f)) (j 0) (j 2) (j 3)

/-- The layer's output array at sample `b`, channel `k`, feature `f`. -/
theorem result_apply (x : FVec Ideal S4096x1x62x64 .f32) (w : FVec Ideal S64x64 .f32) (ats atd bias : FVec Ideal S64 .f32)
    (b : Fin 4096) (k : Fin 62) (f : Fin 64) :
    result x w ats atd bias (ix4 b 0 k f)
      = Layer.out (fun b c k => x (ix4 b 0 c k)) (fun f k => w (ix2 f k)) (fun f => ats (ix1 f)) (fun f => atd (ix1 f))
          (fun f => bias (ix1 f)) b k f := rfl

/-- The windows' block indices: sample block `t` of the input and the output, the whole of everything else. -/
theorem idx : ∀ t : Fin cfg0.N, win0_0.index t = ![t.val, 0, 0, 0] ∧ win0_1.index t = ![0, 0] ∧ win0_2.index t = ![0, 0]
    ∧ win0_3.index t = ![0, 0] ∧ win0_4.index t = ![0, 0] ∧ win0_5.index t = ![t.val, 0, 0, 0] ∧ t.val < 8 :=
  (by decide +kernel : ∀ t : Fin grid0.N, _)

/-- What the host lines before the launch leave in the kernel's operands: the input unchanged, … -/
theorem V_main_v0 (c : Dev nD) : V m c main_v0
    = (truncf .bf16 (m ((c : Thread nD τ).loc main_arg0) : FVec Ideal S4096x1x62x64 .f32) bitsLt_bf16_f32 : FVec Ideal S4096x1x62x64 .bf16) := rfl

/-- … the matrix transposed, … -/
theorem V_main_v2 (c : Dev nD) : V m c main_v2
    = (truncf .bf16 (transpose S64x64 [1, 0] (m ((c : Thread nD τ).loc main_arg1) : FVec Ideal S64x64 .f32) transposes_S64x64_S64x64_1_0)
        bitsLt_bf16_f32 : FVec Ideal S64x64 .bf16) := rfl

/-- … the source attention vector as a row, … -/
theorem V_main_v3 (c : Dev nD) : V m c main_v3
    = shapeCast S1x64 (m ((c : Thread nD τ).loc main_arg2) : FVec Ideal S64 .f32) shapeCasts_S64_S1x64 := rfl

/-- … the target attention vector as a row, … -/
theorem V_main_v4 (c : Dev nD) : V m c main_v4
    = shapeCast S1x64 (m ((c : Thread nD τ).loc main_arg3) : FVec Ideal S64 .f32) shapeCasts_S64_S1x64 := rfl

/-- … and the bias as a row. -/
theorem V_main_v5 (c : Dev nD) : V m c main_v5
    = shapeCast S1x64 (m ((c : Thread nD τ).loc main_arg4) : FVec Ideal S64 .f32) shapeCasts_S64_S1x64 := rfl

/-- A vector as a row of one, at an index. -/
theorem row_apply (x : FVec Ideal S64 .f32) (f : Fin 64) : shapeCast S1x64 x shapeCasts_S64_S1x64 (ix2 0 f) = x (ix1 f) := by
  pointwise []

/-- The input's block at point `t`: samples `512 t` to `512 t + 511`. -/
theorem block_x (c : Dev nD) (t : Fin cfg0.N) (b : Fin 512) (k : Fin 62) (f : Fin 64) :
    (iblk m c 0 t : Vec Ideal S512x1x62x64 .bf16) (ix4 b 0 k f)
      = m ((c : Thread nD τ).loc main_arg0) (ix4 (⟨512 * t.val + b.val, by have := (idx t).2.2.2.2.2.2; omega⟩ : Fin 4096) 0 k f) := by
  show V m c main_v0 (((cfg0.win 0).blk t).view.emb (ix4 b 0 k f)) = _
  rw [V_main_v0]
  blk_point [idx t]

/-- The matrix at every point. -/
theorem block_w (c : Dev nD) (t : Fin cfg0.N) (k f : Fin 64) :
    (iblk m c 1 t : Vec Ideal S64x64 .bf16) (ix2 k f) = m ((c : Thread nD τ).loc main_arg1) (ix2 f k) := by
  show V m c main_v2 (((cfg0.win 1).blk t).view.emb (ix2 k f)) = _
  rw [V_main_v2, show ((cfg0.win 1).blk t).view.emb (ix2 k f) = (ix2 k f : S64x64.Idx) from by blk_ext [idx t]]
  pointwise []

/-- The source attention vector's block is the whole vector. -/
theorem block_s (c : Dev nD) (t : Fin cfg0.N) (f : Fin 64) :
    (iblk m c 2 t : Vec Ideal S1x64 .f32) (ix2 0 f) = m ((c : Thread nD τ).loc main_arg2) (ix1 f) := by
  show V m c main_v3 (((cfg0.win 2).blk t).view.emb (ix2 0 f)) = _
  rw [V_main_v3, show ((cfg0.win 2).blk t).view.emb (ix2 0 f) = (ix2 0 f : S1x64.Idx) from by blk_ext [idx t]]
  exact row_apply _ f

/-- The target attention vector's block is the whole vector. -/
theorem block_d (c : Dev nD) (t : Fin cfg0.N) (f : Fin 64) :
    (iblk m c 3 t : Vec Ideal S1x64 .f32) (ix2 0 f) = m ((c : Thread nD τ).loc main_arg3) (ix1 f) := by
  show V m c main_v4 (((cfg0.win 3).blk t).view.emb (ix2 0 f)) = _
  rw [V_main_v4, show ((cfg0.win 3).blk t).view.emb (ix2 0 f) = (ix2 0 f : S1x64.Idx) from by blk_ext [idx t]]
  exact row_apply _ f

/-- The bias's block is the whole vector. -/
theorem block_b (c : Dev nD) (t : Fin cfg0.N) (f : Fin 64) :
    (iblk m c 4 t : Vec Ideal S1x64 .f32) (ix2 0 f) = m ((c : Thread nD τ).loc main_arg4) (ix1 f) := by
  show V m c main_v5 (((cfg0.win 4).blk t).view.emb (ix2 0 f)) = _
  rw [V_main_v5, show ((cfg0.win 4).blk t).view.emb (ix2 0 f) = (ix2 0 f : S1x64.Idx) from by blk_ext [idx t]]
  exact row_apply _ f

/-- What point `t` leaves in the output's block, at sample `b` of the block: the layer's output at sample `512 t + b`. -/
theorem point (c : Dev nD) (t : Fin cfg0.N) (b : Fin 512) (k : Fin 62) (f : Fin 64) :
    outsAt0 m c t.val t.isLt (ix4 b 0 k f)
      = result (m ((c : Thread nD τ).loc main_arg0)) (m ((c : Thread nD τ).loc main_arg1)) (m ((c : Thread nD τ).loc main_arg2))
          (m ((c : Thread nD τ).loc main_arg3)) (m ((c : Thread nD τ).loc main_arg4))
          (ix4 (⟨512 * t.val + b.val, by have := (idx t).2.2.2.2.2.2; omega⟩ : Fin 4096) 0 k f) := by
  have ht := (idx t).2.2.2.2.2.2
  rw [result_apply]
  by_cases h0 : t.val = 0
  · rw [outsAt0_A m c t (by omega) (by omega), Block.outA_apply]
    simp only [block_x, block_w, block_s, block_d, block_b]
    by_cases hb : b.val = 0
    · rw [if_pos hb, Layer.out_zero _ _ _ _ _ _ _ _ (show 512 * t.val + b.val = 0 by omega)]
    · rw [if_neg hb, Layer.out_pos _ _ _ _ _ _ _ _ (show ¬ 512 * t.val + b.val = 0 by omega)]
  · rw [outsAt0_B m c t (by omega) (by omega), Block.outB_apply]
    simp only [block_x, block_w, block_b]
    rw [Layer.out_pos _ _ _ _ _ _ _ _ (show ¬ 512 * t.val + b.val = 0 by omega)]

/-- The output array after the run. -/
theorem final (c : Dev nD) : (dats m 0 c).arrAt 5 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp [idx t]
  rw [after0_5]
  obtain ⟨b, k, f, rfl⟩ : ∃ (b : Fin 512) (k : Fin 62) (f : Fin 64), y = (ix4 b 0 k f : S512x1x62x64.Idx) :=
    ⟨y 0, y 2, y 3, by
      refine (eq_ix4 (n0 := 512) (n1 := 1) (n2 := 62) (n3 := 64) y).trans ?_
      congr 1
      exact Subsingleton.elim _ _⟩
  refine (point m c t b k f).trans (congrArg _ ?_)
  blk_ext [idx t]

end Cert.Proof.Array

end
-- ==== Proof.Stages.lean ====
/- The reference's result as a composition of named stages: the edge list, the features, the logits, the softmax over
   each target's edges, the sums over the edges. Each is the operation the reference runs, over variables. -/
module

public import proofs.«01_k».proof.Proof.Gen.ReferenceIdeal.Run

@[expose] public section

set_option maxRecDepth 16384

noncomputable section

namespace Cert.Proof.Stages

open Idealize.ShloMosaic Idealize.ShloMosaic.TcCoe Cert.ReferenceIdeal Cert.ReferenceIdeal.Gen

/-- Sources of the pair edges: pair number over 61. -/
def pairSrc : IVec S3782 32 :=
  Host.divsi (iotaInDim S3782 32 0) (broadcastInDim S3782 ![] bcast_S_S3782 (constantI S_ 32 61#32))

/-- A pair's number within its source. -/
def pairOff : IVec S3782 32 :=
  Host.remsi (iotaInDim S3782 32 0) (broadcastInDim S3782 ![] bcast_S_S3782 (constantI S_ 32 61#32))

/-- Targets of the pair edges: the number within the source, the source itself left out. -/
def pairDst : IVec S3782 32 := addi pairOff (extui 32 (cmpi .sge pairOff pairSrc) natLt_1_32)

/-- An edge list: the pairs, then one self-loop per node. -/
def edges (p : IVec S3782 32) : IVec S257734 32 :=
  concatenate S257734 0 [⟨S3782, p⟩, ⟨S253952, iotaInDim S253952 32 0⟩] concatenates_S3782_S253952_S257734_d0

/-- An edge list as a column of indices, negative ones counted from the end. -/
def column (v : IVec S257734 32) : IVec S257734x1 32 :=
  broadcastInDim S257734x1 ![0] bcast_S257734_S257734x1_0
    (select (cmpi .slt v (broadcastInDim S257734 ![] bcast_S_S257734 (constantI S_ 32 0#32)))
      (addi v (broadcastInDim S257734 ![] bcast_S_S257734 (constantI S_ 32 253952#32))) v)

/-- The targets as a column of indices, as the sums take them. -/
def targets : IVec S257734x1 32 := broadcastInDim S257734x1 ![0] bcast_S257734_S257734x1_0 (edges pairDst)

section Float

variable {F : FTy → Type} [FloatOps F]

/-- The features of every node. -/
def feats (x : FVec F S4096x1x62x64 .f32) (w : FVec F S64x64 .f32) : FVec F S253952x64 .f32 :=
  Host.dotGeneral dot_S253952x64_S64x64_S253952x64_1_0_0_1_n_n none (shapeCast _ x shapeCasts_S4096x1x62x64_S253952x64)
    (transpose S64x64 [1, 0] w transposes_S64x64_S64x64_1_0)

/-- The features against an attention vector. -/
def scores (h : FVec F S253952x64 .f32) (a : FVec F S64 .f32) : FVec F S253952 .f32 :=
  Host.dotGeneral dot_S253952x64_S64_S253952_1_0_0_n_n_n none h a

/-- A per-node vector read along an edge list. -/
def along (v : FVec F S253952 .f32) (ix : IVec S257734x1 32) : FVec F S257734 .f32 :=
  Host.gather gather_S253952_S257734x1_S257734_n_0_n_n_0_1_1 v ix

/-- Source score plus target score, per edge. -/
def raw (s d : FVec F S253952 .f32) : FVec F S257734 .f32 :=
  addf (along s (column (edges pairSrc))) (along d (column (edges pairDst)))

/-- The leaky rectifier, per edge. -/
def leaky (v : FVec F S257734 .f32) : FVec F S257734 .f32 :=
  select (cmpf .oge v (broadcastInDim S257734 ![] bcast_S_S257734 (constant S_ .f32 0x00000000#32))) v
    (mulf (broadcastInDim S257734 ![] bcast_S_S257734 (id (constant S_ .f32 0x3E4CCCCD#32))) v)

/-- The pair logits, one column per target among the first 62 nodes: minus infinity where the pair has another target. -/
def table (e : FVec F S257734 .f32) : FVec F S3782x62 .f32 :=
  select (cmpi .eq (broadcastInDim S3782x62 ![0, 1] bcast_S3782x1_S3782x62_0_1 (broadcastInDim S3782x1 ![0] bcast_S3782_S3782x1_0 pairDst))
      (broadcastInDim S3782x62 ![0, 1] bcast_S1x62_S3782x62_0_1 (broadcastInDim S1x62 ![1] bcast_S62_S1x62_1 (iotaInDim S62 32 0))))
    (broadcastInDim S3782x62 ![0, 1] bcast_S3782x1_S3782x62_0_1 (broadcastInDim S3782x1 ![0] bcast_S3782_S3782x1_0
      (extractStridedSlice S3782 ![0] e slices_S257734_S3782_0)))
    (broadcastInDim S3782x62 ![] bcast_S_S3782x62 (id (constant S_ .f32 0xFF800000#32)))

/-- The greatest pair logit per node: minus infinity at a node no pair enters. -/
def tops (e : FVec F S257734 .f32) : FVec F S253952 .f32 :=
  concatenate S253952 0 [⟨S62, Host.reduce FloatOps.maximumf (table e) (constant S_ .f32 0xFF800000#32) reducesTo_S3782x62_S62_d0 h_S_⟩,
    ⟨S253890, broadcastInDim S253890 ![] bcast_S_S253890 (constant S_ .f32 0xFF800000#32)⟩] concatenates_S62_S253890_S253952_d0

/-- The greatest logit of the edges into each node, its self-loop among them. -/
def most (e : FVec F S257734 .f32) : FVec F S253952 .f32 :=
  maximumf (extractStridedSlice S253952 ![3782] e slices_S257734_S253952_3782) (tops e)

/-- The exponentials, the greatest logit of the target taken off. -/
def weights (e : FVec F S257734 .f32) : FVec F S257734 .f32 :=
  Host.exp (subf e (along (most e) (column (edges pairDst))))

/-- The sum of the exponentials into each node. -/
def denoms (g : FVec F S257734 .f32) : FVec F S253952 .f32 :=
  Host.scatterAdd scatter_S253952_S257734x1_S257734_n_0_0_1
    (broadcastInDim S253952 ![] bcast_S_S253952 (constant S_ .f32 0x00000000#32)) targets g

/-- What the denominator adds: 1e-16 at the first 62 nodes, nothing elsewhere. -/
def offset : FVec F S253952 .f32 :=
  select (cmpi .slt (iotaInDim S253952 32 0) (broadcastInDim S253952 ![] bcast_S_S253952 (constantI S_ 32 62#32)))
    (broadcastInDim S253952 ![] bcast_S_S253952 (constant S_ .f32 0x24E69595#32))
    (broadcastInDim S253952 ![] bcast_S_S253952 (constant S_ .f32 0x00000000#32))

/-- The attention coefficient of each edge. -/
def coefs (g : FVec F S257734 .f32) : FVec F S257734 .f32 :=
  Host.divf g (addf (along (denoms g) (column (edges pairDst))) (along offset (column (edges pairDst))))

/-- The message of each edge: the source's features times the coefficient. -/
def messages (h : FVec F S253952x64 .f32) (a : FVec F S257734 .f32) : FVec F S257734x64 .f32 :=
  mulf (broadcastInDim S257734x64 ![0, 1] bcast_S257734x1_S257734x64_0_1 (broadcastInDim S257734x1 ![0] bcast_S257734_S257734x1_0 a))
    (Host.gather gather_S253952x64_S257734x1_S257734x64_1_0_n_n_0_1_164 h (column (edges pairSrc)))

/-- The sum of the messages into each node. -/
def sums (p : FVec F S257734x64 .f32) : FVec F S253952x64 .f32 :=
  Host.scatterAdd scatter_S253952x64_S257734x1_S257734x64_1_0_0_1
    (broadcastInDim S253952x64 ![] bcast_S_S253952x64 (constant S_ .f32 0x00000000#32)) targets p

/-- The bias added and the nodes laid out as samples and channels again. -/
def layout (o : FVec F S253952x64 .f32) (bias : FVec F S64 .f32) : FVec F S4096x1x62x64 .f32 :=
  broadcastInDim S4096x1x62x64 ![0, 2, 3] bcast_S4096x62x64_S4096x1x62x64_0_2_3
    (shapeCast _ (addf o (broadcastInDim S253952x64 ![0, 1] bcast_S1x64_S253952x64_0_1 (broadcastInDim S1x64 ![1] bcast_S64_S1x64_1 bias)))
      shapeCasts_S253952x64_S4096x62x64)

/-- The logits of all edges. -/
def logits (h : FVec F S253952x64 .f32) (ats atd : FVec F S64 .f32) : FVec F S257734 .f32 := leaky (raw (scores h ats) (scores h atd))

/-- The reference's result. -/
def whole (x : FVec F S4096x1x62x64 .f32) (w : FVec F S64x64 .f32) (ats atd bias : FVec F S64 .f32) : FVec F S4096x1x62x64 .f32 :=
  layout (sums (messages (feats x w) (coefs (weights (logits (feats x w) ats atd))))) bias

/-- The run's result term is the composition of the stages. -/
theorem whole_eq (m : (ℓ : Loc nD τ sig) → Buf (Elt F) ℓ) (c : Dev nD) :
    Value.res_main_v94 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v94
  rfl

end Float

end Cert.Proof.Stages

end
-- ==== Proof.EdgeList.lean ====
/- The reference's edge list, entry by entry: pair `p` goes from channel `p / 61` to the `p % 61`-th of the other
   channels, and edge `3782 + n` is the self-loop of node `n`. -/
module

public import proofs.«01_k».proof.Proof.Stages
public import Idealize.ShloMosaic.Lib.Pointwise

@[expose] public section

set_option maxRecDepth 16384

noncomputable section

namespace Cert.Proof.EdgeList

open Idealize.ShloMosaic Idealize.ShloMosaic.TcCoe Cert.ReferenceIdeal Cert.ReferenceIdeal.Gen Cert.Proof.Stages

/-- The source channel of pair `p`. -/
def pi (p : Fin 3782) : Fin 62 := ⟨p.val / 61, by omega⟩

/-- The target channel of pair `p`: the source left out of the count. -/
def pj (p : Fin 3782) : Fin 62 := (pi p).succAbove ⟨p.val % 61, by omega⟩

/-- A channel as one of the first 62 nodes. -/
def node (c : Fin 62) : Fin 253952 := ⟨c.val, by omega⟩

/-- The node at one end of edge `e`: the pair's channel `q`, or the self-loop's node. -/
def stop (q : Fin 3782 → Fin 62) (e : Fin 257734) : Fin 253952 :=
  if h : e.val < 3782 then node (q ⟨e.val, h⟩) else ⟨e.val - 3782, by omega⟩

/-- Pair `p`'s source, as the reference computes it. -/
theorem pairSrc_apply (p : Fin 3782) : pairSrc (ix1 p) = BitVec.ofNat 32 (pi p).val := by
  pointwise [pairSrc]
  exact (by decide +kernel : ∀ p : Fin 3782, IntOp.divsi .host (BitVec.ofNat 32 p.val) 61#32 = BitVec.ofNat 32 (pi p).val) p

/-- Pair `p`'s target, as the reference computes it. -/
theorem pairDst_apply (p : Fin 3782) : pairDst (ix1 p) = BitVec.ofNat 32 (pj p).val := by
  pointwise [pairDst, pairOff, pairSrc_apply]
  exact (by decide +kernel : ∀ p : Fin 3782, IntOp.addi (IntOp.remsi .host (BitVec.ofNat 32 p.val) 61#32)
    (BitVec.setWidth 32 (IntOp.cmpi .sge (IntOp.remsi .host (BitVec.ofNat 32 p.val) 61#32) (BitVec.ofNat 32 (pi p).val)))
      = BitVec.ofNat 32 (pj p).val) p

/-- A node's number as a word, read signed. -/
theorem toInt_node (n : Fin 253952) : (BitVec.ofNat 32 n.val).toInt = (n.val : ℤ) := by
  have := n.isLt
  have hn : (BitVec.ofNat 32 n.val).toNat = n.val := by rw [BitVec.toNat_ofNat]; omega
  rw [BitVec.toInt_eq_toNat_of_lt (by rw [hn]; omega), hn]

/-- A node's number is not negative. -/
theorem slt_node (n : Fin 253952) : IntOp.cmpi .slt (BitVec.ofNat 32 n.val) 0#32 = 0#1 := by
  show BitVec.ofBool (BitVec.slt (BitVec.ofNat 32 n.val) 0#32) = 0#1
  rw [BitVec.slt, toInt_node, BitVec.toInt_zero, decide_eq_false (by omega)]
  rfl

/-- An edge list at edge `e`. -/
theorem edges_apply (v : IVec S3782 32) (q : Fin 3782 → Fin 62) (hq : ∀ p, v (ix1 p) = BitVec.ofNat 32 (q p).val) (e : Fin 257734) :
    edges v (ix1 e) = BitVec.ofNat 32 (stop q e).val := by
  pointwise [edges, stop, hq]
  by_cases h : e.val < 3782
  · rw [dif_pos h, dif_pos h]
    rfl
  · rw [dif_neg h, dif_neg h]

/-- The column of an edge list names the edge's node. -/
theorem column_apply (v : IVec S3782 32) (q : Fin 3782 → Fin 62) (hq : ∀ p, v (ix1 p) = BitVec.ofNat 32 (q p).val) (e : Fin 257734) :
    (column (edges v) (ix2 e 0)).toInt = ((stop q e).val : ℤ) := by
  pointwise [column]
  rw [edges_apply v q hq, slt_node]
  exact toInt_node _

/-- The targets' column names the edge's target. -/
theorem targets_apply (e : Fin 257734) : (targets (ix2 e 0)).toInt = ((stop pj e).val : ℤ) := by
  pointwise [targets]
  rw [edges_apply pairDst pj pairDst_apply, toInt_node]

end Cert.Proof.EdgeList

end
-- ==== Proof.EdgeSum.lean ====
/- Sums and maxima over the edge list, as sums and maxima over the channels: into a channel `c` of the first sample go
   one edge from every other channel and the self-loop, so a sum over its edges runs over all 62 channels; into any
   other node goes its self-loop alone. -/
module

public import proofs.«01_k».proof.Proof.EdgeList

@[expose] public section

set_option maxRecDepth 16384

noncomputable section

namespace Cert.Proof.EdgeSum

open Idealize.ShloMosaic Cert.Proof.EdgeList

/-- Pair `p` as an edge. -/
def pairEdge (p : Fin 3782) : Fin 257734 := ⟨p.val, by omega⟩

/-- Node `n`'s self-loop. -/
def loop (n : Fin 253952) : Fin 257734 := ⟨3782 + n.val, by omega⟩

/-- The edge from channel `i` to channel `j`. -/
def edge (i j : Fin 62) : Fin 257734 :=
  if h : j = i then loop (node i)
  else pairEdge ⟨61 * i.val + (if j.val < i.val then j.val else j.val - 1), by
    have := i.isLt; have := j.isLt
    have hne : j.val ≠ i.val := fun hh => h (Fin.ext hh)
    split <;> omega⟩

/-- A pair's edge ends at the node of the pair's channel. -/
theorem stop_pairEdge (q : Fin 3782 → Fin 62) (p : Fin 3782) : stop q (pairEdge p) = node (q p) := by
  unfold stop
  rw [dif_pos (show (pairEdge p).val < 3782 from p.isLt)]
  rfl

/-- A self-loop ends at its node. -/
theorem stop_loop (q : Fin 3782 → Fin 62) (n : Fin 253952) : stop q (loop n) = n := by
  unfold stop
  rw [dif_neg (show ¬ (loop n).val < 3782 from Nat.not_lt.mpr (Nat.le_add_right _ _))]
  exact Fin.ext (Nat.add_sub_cancel_left _ _)

/-- Different channels are different nodes. -/
theorem node_inj {c d : Fin 62} (h : node c = node d) : c = d := Fin.ext (congrArg (fun n : Fin 253952 => n.val) h)

/-- The pair from `i` to its `k`-th other channel. -/
def pair (i : Fin 62) (k : Fin 61) : Fin 3782 := ⟨61 * i.val + k.val, by have := i.isLt; have := k.isLt; omega⟩

/-- The source of a channel's numbered pair is that channel. -/
theorem pi_pair (i : Fin 62) (k : Fin 61) : pi (pair i k) = i :=
  Fin.ext (show (61 * i.val + k.val) / 61 = i.val by have := k.isLt; omega)

/-- The target of a channel's numbered pair is the channel it skips to. -/
theorem pj_pair (i : Fin 62) (k : Fin 61) : pj (pair i k) = i.succAbove k := by
  have hk : (⟨(pair i k).val % 61, Nat.mod_lt _ (by omega)⟩ : Fin 61) = k :=
    Fin.ext (show (61 * i.val + k.val) % 61 = k.val by have := k.isLt; omega)
  show (pi (pair i k)).succAbove _ = _
  rw [pi_pair, hk]

/-- The edge from a channel to itself is its node's self-loop. -/
theorem edge_self (i : Fin 62) : edge i i = loop (node i) := dif_pos rfl

/-- The edge from a channel to another one is their pair's edge. -/
theorem edge_succAbove (i : Fin 62) (k : Fin 61) : edge i (i.succAbove k) = pairEdge (pair i k) := by
  unfold edge
  rw [dif_neg (Fin.succAbove_ne i k)]
  congr 1
  refine Fin.ext ?_
  show 61 * i.val + (if (i.succAbove k).val < i.val then (i.succAbove k).val else (i.succAbove k).val - 1) = 61 * i.val + k.val
  congr 1
  by_cases h : k.val < i.val
  · rw [Fin.succAbove_of_castSucc_lt i k (show k.castSucc.val < i.val from h), if_pos (show k.castSucc.val < i.val from h)]
    rfl
  · rw [Fin.succAbove_of_le_castSucc i k (show i.val ≤ k.castSucc.val from Nat.not_lt.mp h),
      if_neg (show ¬ k.succ.val < i.val from by rw [Fin.val_succ]; omega)]
    rfl

/-- The source of the edge from `i` to `j` is `i`. -/
theorem stop_pi_edge (i j : Fin 62) : stop pi (edge i j) = node i := by
  by_cases h : j = i
  · subst h; rw [edge_self, stop_loop]
  · obtain ⟨k, rfl⟩ := Fin.exists_succAbove_eq h
    rw [edge_succAbove, stop_pairEdge, pi_pair]

/-- The target of the edge from `i` to `j` is `j`. -/
theorem stop_pj_edge (i j : Fin 62) : stop pj (edge i j) = node j := by
  by_cases h : j = i
  · subst h; rw [edge_self, stop_loop]
  · obtain ⟨k, rfl⟩ := Fin.exists_succAbove_eq h
    rw [edge_succAbove, stop_pairEdge, pj_pair]

/-- A sum over all edges is the sum over the pairs and the sum over the self-loops. -/
theorem sum_edges {M : Type} [AddCommMonoid M] (g : Fin 257734 → M) :
    ∑ e, g e = (∑ i : Fin 62, ∑ k : Fin 61, g (pairEdge (pair i k))) + ∑ n : Fin 253952, g (loop n) := by
  have h := Fin.sum_univ_add (a := 3782) (b := 253952) (fun e => g e)
  refine h.trans ?_
  refine congrArg₂ (· + ·) ?_ rfl
  refine Eq.trans ?_ (Fintype.sum_prod_type (fun q : Fin 62 × Fin 61 => g (pairEdge (pair q.1 q.2))))
  refine Fintype.sum_equiv ⟨fun p => (pi p, ⟨p.val % 61, Nat.mod_lt _ (by omega)⟩), fun q => pair q.1 q.2, ?_, ?_⟩ _ _ ?_
  · intro p
    exact Fin.ext (show 61 * (p.val / 61) + p.val % 61 = p.val by omega)
  · rintro ⟨i, k⟩
    refine Prod.ext (pi_pair i k) (Fin.ext ?_)
    show (61 * i.val + k.val) % 61 = k.val
    have := k.isLt; omega
  · intro p
    show g (pairEdge p) = g (pairEdge (pair (pi p) ⟨p.val % 61, _⟩))
    exact congrArg (fun q => g (pairEdge q)) (Fin.ext (show p.val = 61 * (p.val / 61) + p.val % 61 by omega))

/-- The edges into a node past the first sample: its self-loop alone. -/
theorem sum_far {M : Type} [AddCommMonoid M] (g : Fin 257734 → M) (n : Fin 253952) (hn : 62 ≤ n.val) :
    (∑ e, if stop pj e = n then g e else 0) = g (loop n) := by
  rw [sum_edges, Finset.sum_eq_zero, zero_add, Finset.sum_eq_single n]
  · rw [stop_loop, if_pos rfl]
  · intro n' _ hne
    rw [stop_loop, if_neg hne]
  · exact fun h => absurd (Finset.mem_univ n) h
  · intro i _
    refine Finset.sum_eq_zero fun k _ => ?_
    rw [stop_pairEdge, if_neg]
    intro h
    have : (node (pj (pair i k))).val = n.val := congrArg (fun n : Fin 253952 => n.val) h
    have h62 : (node (pj (pair i k))).val < 62 := (pj (pair i k)).isLt
    omega

/-- The edges into a channel of the first sample: one from every channel, the self-loop among them. -/
theorem sum_near {M : Type} [AddCommMonoid M] (g : Fin 257734 → M) (c : Fin 62) :
    (∑ e, if stop pj e = node c then g e else 0) = ∑ i : Fin 62, g (edge i c) := by
  rw [sum_edges]
  have hloops : (∑ n : Fin 253952, if stop pj (loop n) = node c then g (loop n) else 0) = g (edge c c) := by
    rw [Finset.sum_eq_single (node c)]
    · rw [stop_loop, if_pos rfl, edge_self]
    · intro n' _ hne
      rw [stop_loop, if_neg hne]
    · exact fun h => absurd (Finset.mem_univ _) h
  have hpairs : ∀ i : Fin 62, (∑ k : Fin 61, if stop pj (pairEdge (pair i k)) = node c then g (pairEdge (pair i k)) else 0)
      = if i = c then 0 else g (edge i c) := by
    intro i
    by_cases hi : i = c
    · subst hi
      rw [if_pos rfl]
      refine Finset.sum_eq_zero fun k _ => ?_
      rw [stop_pairEdge, pj_pair, if_neg]
      exact fun h => Fin.succAbove_ne i k (node_inj h)
    · rw [if_neg hi]
      obtain ⟨k, rfl⟩ := Fin.exists_succAbove_eq (Ne.symm hi)
      rw [Finset.sum_eq_single k]
      · rw [stop_pairEdge, pj_pair, if_pos rfl, edge_succAbove]
      · intro k' _ hne
        rw [stop_pairEdge, pj_pair, if_neg]
        exact fun h => hne (Fin.succAbove_right_injective (node_inj h))
      · exact fun h => absurd (Finset.mem_univ _) h
  rw [hloops, Finset.sum_congr rfl fun i _ => hpairs i, ← Finset.add_sum_erase Finset.univ (fun i => g (edge i c)) (Finset.mem_univ c),
    add_comm]
  refine congrArg (fun z => g (edge c c) + z) ?_
  rw [← Finset.add_sum_erase Finset.univ _ (Finset.mem_univ c), if_pos rfl, zero_add]
  refine Finset.sum_congr rfl fun i hi => ?_
  rw [if_neg (Finset.ne_of_mem_erase hi)]

/-- The greatest over the pairs into a channel and its self-loop: the greatest over all channels. -/
theorem sup_near (g : Fin 257734 → EReal) (c : Fin 62) :
    max (g (loop (node c))) (Finset.univ.sup fun p : Fin 3782 => if pj p = c then g (pairEdge p) else ⊥)
      = Finset.univ.sup fun i : Fin 62 => g (edge i c) := by
  refine le_antisymm (max_le ?_ (Finset.sup_le fun p _ => ?_)) (Finset.sup_le fun i _ => ?_)
  · rw [← edge_self]
    exact Finset.le_sup (f := fun i : Fin 62 => g (edge i c)) (Finset.mem_univ c)
  · by_cases h : pj p = c
    · rw [if_pos h]
      have hp : pairEdge p = edge (pi p) c := by
        rw [← h, show pj p = (pi p).succAbove ⟨p.val % 61, Nat.mod_lt _ (by omega)⟩ from rfl, edge_succAbove]
        congr 1
        exact Fin.ext (show p.val = 61 * (p.val / 61) + p.val % 61 by omega)
      rw [hp]
      exact Finset.le_sup (f := fun i : Fin 62 => g (edge i c)) (Finset.mem_univ _)
    · rw [if_neg h]
      exact bot_le
  · by_cases h : c = i
    · subst h
      rw [edge_self]
      exact le_max_left _ _
    · obtain ⟨k, rfl⟩ := Fin.exists_succAbove_eq h
      rw [edge_succAbove]
      refine le_max_of_le_right ?_
      refine le_trans ?_ (Finset.le_sup (f := fun p : Fin 3782 => if pj p = i.succAbove k then g (pairEdge p) else ⊥)
        (Finset.mem_univ (pair i k)))
      rw [if_pos (pj_pair i k)]

end Cert.Proof.EdgeSum

end
-- ==== Proof.EdgeOps.lean ====
/- A gather and an accumulating scatter along the first axis, read at an index.
   What `a[idx]`, `h[idx]` and `segment_sum(v, idx)` compute when every entry of `idx` is a position of the operand:
   the gathers pick the named element or row, the scatter adds up the updates whose entry names the element. -/
module

public import Idealize.ShloMosaic.Lib.Pointwise
public import Idealize.ShloMosaic.PureOps.Ideal

@[expose] public section

noncomputable section

namespace Cert.Proof.EdgeOps

open Idealize.ShloMosaic

variable {α : Type} {N E K w : Nat}

/-- The dimension numbers of `a[idx]` for `a : [N]` and the entries as a column `[E, 1]`. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of `h[idx]` for `h : [N, K]` and the entries as a column `[E, 1]`: whole rows. -/
abbrev rowGather (N E K : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- The dimension numbers of `segment_sum` of a vector of updates. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of `segment_sum` of a matrix of updates, one row per entry. -/
abbrev rowScatter (N E K : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- A vector gathered at an entry that names position `n` gives the element there. -/
theorem gather_vec (wf) (x : (⟨1, ![N]⟩ : Shape).Idx → α) (idx : IVec ⟨2, ![E, 1]⟩ w) (e : Fin E) (n : Fin N)
    (h : (idx (ix2 e 0)).toInt = (n.val : ℤ)) :
    Host.gather (vecGather N E wf) x idx (ix1 e) = x (ix1 n) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = n.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi, h]
  show min ((n.val : ℤ).toNat) (N - 1) = n.val
  have := n.isLt
  omega

/-- A row gathered at an entry that names row `n` gives that row. -/
theorem gather_row (wf) (x : (⟨2, ![N, K]⟩ : Shape).Idx → α) (idx : IVec ⟨2, ![E, 1]⟩ w) (e : Fin E) (k : Fin K) (n : Fin N)
    (h : (idx (ix2 e 0)).toInt = (n.val : ℤ)) :
    Host.gather (rowGather N E K wf) x idx (ix2 e k) = x (ix2 n k) := by
  unfold Host.gather
  congr 1
  funext a
  refine Fin.ext ?_
  match a with
  | ⟨0, _⟩ =>
    show (rowGather N E K wf).start (ix2 e k) idx 0 + (rowGather N E K wf).batchCoord (ix2 e k) 0
      + (rowGather N E K wf).offCoord (ix2 e k) 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E K wf).startIndexMap from List.mem_singleton.mpr rfl)]
    have hsi : (rowGather N E K wf).siIdx (ix2 e k) ⟨List.idxOf (0 : Fin 2) (rowGather N E K wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, h]
    show min ((n.val : ℤ).toNat) (N - 1) = n.val
    have := n.isLt
    omega
  | ⟨1, _⟩ =>
    show (rowGather N E K wf).start (ix2 e k) idx 1 + (rowGather N E K wf).batchCoord (ix2 e k) 1
      + (rowGather N E K wf).offCoord (ix2 e k) 1 = k.val
    rw [GatherDims.batchCoord_eq_zero _ _ _ List.not_mem_nil]
    unfold GatherDims.start
    rw [dif_neg (show (1 : Fin 2) ∉ (rowGather N E K wf).startIndexMap from by
      show (1 : Fin 2) ∉ [(0 : Fin 2)]; decide)]
    simp only [Nat.zero_add]
    rfl

/-- Where a vector's update `e` lands, when its entry names position `n`. -/
theorem scatter_vec_idx (wf) (idx : IVec ⟨2, ![E, 1]⟩ w) (e : Fin E) (n : Fin N)
    (h : (idx (ix2 e 0)).toInt = (n.val : ℤ)) :
    (vecScatter N E wf).resultIdx? (ix1 e) idx = some (ix1 n) := by
  have hw : (vecScatter N E wf).window (ix1 e) 0 = 0 := by
    unfold ScatterDims.window
    rw [dif_neg]
    show (0 : Fin 1) ∉ (⟨1, ![N]⟩ : Shape).kept [0]
    simp [Shape.kept]
  have hs : (vecScatter N E wf).start (ix1 e) idx 0 = (n.val : ℤ) := by
    unfold ScatterDims.start
    rw [dif_pos (show (0 : Fin 1) ∈ (vecScatter N E wf).scatterDimsToOperandDims from List.mem_singleton.mpr rfl)]
    have hsi : (vecScatter N E wf).siIdx (ix1 e) ⟨List.idxOf (0 : Fin 1) (vecScatter N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi, h]
  have hall : ∀ a : Fin 1, 0 ≤ (vecScatter N E wf).start (ix1 e) idx a + (vecScatter N E wf).window (ix1 e) a
      ∧ (vecScatter N E wf).start (ix1 e) idx a + (vecScatter N E wf).window (ix1 e) a < ((⟨1, ![N]⟩ : Shape).size a : ℤ) := by
    intro a
    obtain rfl : a = 0 := Subsingleton.elim _ _
    rw [hs, hw]
    show 0 ≤ (n.val : ℤ) + 0 ∧ (n.val : ℤ) + 0 < (N : ℤ)
    have := n.isLt
    omega
  unfold ScatterDims.resultIdx?
  rw [dif_pos hall]
  congr 1
  funext a
  refine Fin.ext ?_
  obtain rfl : a = 0 := Subsingleton.elim _ _
  show ((vecScatter N E wf).start (ix1 e) idx 0 + (vecScatter N E wf).window (ix1 e) 0).toNat = n.val
  rw [hs, hw]
  omega

/-- Where entry `k` of the updates' row `e` lands, when the row's entry names row `n`. -/
theorem scatter_row_idx (wf) (idx : IVec ⟨2, ![E, 1]⟩ w) (e : Fin E) (k : Fin K) (n : Fin N)
    (h : (idx (ix2 e 0)).toInt = (n.val : ℤ)) :
    (rowScatter N E K wf).resultIdx? (ix2 e k) idx = some (ix2 n k) := by
  have hw0 : (rowScatter N E K wf).window (ix2 e k) 0 = 0 := by
    unfold ScatterDims.window
    rw [dif_neg]
    show (0 : Fin 2) ∉ (⟨2, ![N, K]⟩ : Shape).kept [0]
    simp [Shape.kept]
  have hw1 : (rowScatter N E K wf).window (ix2 e k) 1 = k.val := rfl
  have hs0 : (rowScatter N E K wf).start (ix2 e k) idx 0 = (n.val : ℤ) := by
    unfold ScatterDims.start
    rw [dif_pos (show (0 : Fin 2) ∈ (rowScatter N E K wf).scatterDimsToOperandDims from List.mem_singleton.mpr rfl)]
    have hsi : (rowScatter N E K wf).siIdx (ix2 e k) ⟨List.idxOf (0 : Fin 2) (rowScatter N E K wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi, h]
  have hs1 : (rowScatter N E K wf).start (ix2 e k) idx 1 = 0 := by
    unfold ScatterDims.start
    rw [dif_neg]
    show (1 : Fin 2) ∉ [(0 : Fin 2)]
    decide
  have hall : ∀ a : Fin 2, 0 ≤ (rowScatter N E K wf).start (ix2 e k) idx a + (rowScatter N E K wf).window (ix2 e k) a
      ∧ (rowScatter N E K wf).start (ix2 e k) idx a + (rowScatter N E K wf).window (ix2 e k) a < ((⟨2, ![N, K]⟩ : Shape).size a : ℤ) := by
    intro a
    match a with
    | ⟨0, _⟩ =>
      show 0 ≤ (rowScatter N E K wf).start (ix2 e k) idx 0 + (rowScatter N E K wf).window (ix2 e k) 0
        ∧ (rowScatter N E K wf).start (ix2 e k) idx 0 + (rowScatter N E K wf).window (ix2 e k) 0 < (N : ℤ)
      rw [hs0, hw0]
      have := n.isLt
      omega
    | ⟨1, _⟩ =>
      show 0 ≤ (rowScatter N E K wf).start (ix2 e k) idx 1 + (rowScatter N E K wf).window (ix2 e k) 1
        ∧ (rowScatter N E K wf).start (ix2 e k) idx 1 + (rowScatter N E K wf).window (ix2 e k) 1 < (K : ℤ)
      rw [hs1, hw1]
      have := k.isLt
      omega
  unfold ScatterDims.resultIdx?
  rw [dif_pos hall]
  congr 1
  funext a
  refine Fin.ext ?_
  match a with
  | ⟨0, _⟩ =>
    show ((rowScatter N E K wf).start (ix2 e k) idx 0 + (rowScatter N E K wf).window (ix2 e k) 0).toNat = n.val
    rw [hs0, hw0]
    omega
  | ⟨1, _⟩ =>
    show ((rowScatter N E K wf).start (ix2 e k) idx 1 + (rowScatter N E K wf).window (ix2 e k) 1).toNat = k.val
    rw [hs1, hw1]
    omega

/-- The accumulating scatter of a vector at element `n`: what was there plus the updates whose entry names `n`. -/
theorem scatter_vec (wf) (x : (⟨1, ![N]⟩ : Shape).Idx → EReal) (idx : IVec ⟨2, ![E, 1]⟩ w) (u : (⟨1, ![E]⟩ : Shape).Idx → EReal)
    (dst : Fin E → Fin N) (h : ∀ e, (idx (ix2 e 0)).toInt = ((dst e).val : ℤ)) (n : Fin N) :
    Ideal.hostScatterAdd (vecScatter N E wf) x idx u (ix1 n)
      = x (ix1 n) + ∑ e : Fin E, if dst e = n then u (ix1 e) else 0 := by
  unfold Ideal.hostScatterAdd
  congr 1
  rw [Finset.sum_filter]
  refine Fintype.sum_equiv ⟨fun j => j 0, fun e => ix1 e, fun j => (eq_ix1 j).symm, fun _ => rfl⟩ _ _ fun j => ?_
  obtain ⟨e, rfl⟩ : ∃ e, j = ix1 e := ⟨_, eq_ix1 j⟩
  rw [scatter_vec_idx wf idx e (dst e) (h e)]
  show _ = if dst e = n then u (ix1 e) else 0
  by_cases hn : dst e = n
  · rw [if_pos hn, if_pos (by rw [hn])]
  · rw [if_neg hn, if_neg (fun hh => hn (congrFun (Option.some.inj hh) 0))]

/-- The accumulating scatter of rows at entry `(n, k)`: what was there plus entry `k` of the rows whose entry names `n`. -/
theorem scatter_row (wf) (x : (⟨2, ![N, K]⟩ : Shape).Idx → EReal) (idx : IVec ⟨2, ![E, 1]⟩ w)
    (u : (⟨2, ![E, K]⟩ : Shape).Idx → EReal) (dst : Fin E → Fin N) (h : ∀ e, (idx (ix2 e 0)).toInt = ((dst e).val : ℤ))
    (n : Fin N) (k : Fin K) :
    Ideal.hostScatterAdd (rowScatter N E K wf) x idx u (ix2 n k)
      = x (ix2 n k) + ∑ e : Fin E, if dst e = n then u (ix2 e k) else 0 := by
  unfold Ideal.hostScatterAdd
  congr 1
  rw [Finset.sum_filter, sum_idx2]
  refine Finset.sum_congr rfl fun e _ => ?_
  rw [Finset.sum_eq_single k]
  · rw [scatter_row_idx wf idx e k (dst e) (h e)]
    by_cases hn : dst e = n
    · rw [if_pos hn, if_pos (by rw [hn])]
    · rw [if_neg hn, if_neg (fun hh => hn (congrFun (Option.some.inj hh) 0))]
  · intro k' _ hk'
    rw [scatter_row_idx wf idx e k' (dst e) (h e), if_neg]
    exact fun hh => hk' (congrFun (Option.some.inj hh) 1)
  · exact fun hk => absurd (Finset.mem_univ k) hk

end Cert.Proof.EdgeOps

end
-- ==== Proof.StageValues.lean ====
/- Each stage of the reference over the extended reals, at an index. -/
module

public import proofs.«01_k».proof.Proof.EdgeSum
public import proofs.«01_k».proof.Proof.EdgeOps
public import proofs.«01_k».proof.Proof.Layer

@[expose] public section

set_option maxRecDepth 16384

noncomputable section

namespace Cert.Proof.StageValues

open Idealize.ShloMosaic Idealize.ShloMosaic.TcCoe Cert.ReferenceIdeal Cert.ReferenceIdeal.Gen Cert.Proof.Stages
open Cert.Proof.EdgeList Cert.Proof.EdgeSum

/-- The float word of minus infinity. -/
theorem word_bot : Ideal.ofBits .f32 0xFF800000#32 = (⊥ : EReal) := by simp [Ideal.ofBits, Ideal.ieee]

/-- The sample of a node. -/
def sample (n : Fin 253952) : Fin 4096 := ⟨n.val / 62, by have := n.isLt; omega⟩
/-- The channel of a node. -/
def channel (n : Fin 253952) : Fin 62 := ⟨n.val % 62, Nat.mod_lt _ (by omega)⟩

/-- The features of node `n`. -/
theorem feats_apply (x : FVec Ideal S4096x1x62x64 .f32) (w : FVec Ideal S64x64 .f32) (n : Fin 253952) (f : Fin 64) :
    feats x w (ix2 n f) = Layer.linear (fun n k => x (ix4 (sample n) 0 (channel n) k)) (fun f k => w (ix2 f k)) n f := by
  pointwise [feats, Layer.linear, sample, channel]

/-- The score of node `n`. -/
theorem scores_apply (h : FVec Ideal S253952x64 .f32) (a : FVec Ideal S64 .f32) (n : Fin 253952) :
    scores h a (ix1 n) = Layer.score (fun n f => h (ix2 n f)) (fun f => a (ix1 f)) n := by
  pointwise [scores, Layer.score]

/-- A per-node vector along the sources. -/
theorem along_src (v : FVec Ideal S253952 .f32) (e : Fin 257734) : along v (column (edges pairSrc)) (ix1 e) = v (ix1 (stop pi e)) :=
  EdgeOps.gather_vec _ v _ e _ (column_apply pairSrc pi pairSrc_apply e)

/-- A per-node vector along the targets. -/
theorem along_dst (v : FVec Ideal S253952 .f32) (e : Fin 257734) : along v (column (edges pairDst)) (ix1 e) = v (ix1 (stop pj e)) :=
  EdgeOps.gather_vec _ v _ e _ (column_apply pairDst pj pairDst_apply e)

/-- The leaky rectifier of an edge's sum. -/
theorem leaky_apply (v : FVec Ideal S257734 .f32) (e : Fin 257734) : leaky v (ix1 e) = Layer.leaky (v (ix1 e)) := by
  pointwise [leaky, Layer.leaky]
  rfl

/-- An edge's logit. -/
theorem logits_apply (h : FVec Ideal S253952x64 .f32) (ats atd : FVec Ideal S64 .f32) (e : Fin 257734) :
    logits h ats atd (ix1 e) = Layer.leaky (scores h ats (ix1 (stop pi e)) + scores h atd (ix1 (stop pj e))) := by
  unfold logits
  rw [leaky_apply]
  pointwise [raw, along_src, along_dst]

/-- Two different channels' words differ. -/
theorem eq_word_ne (a b : Fin 62) (h : a ≠ b) : IntOp.cmpi .eq (BitVec.ofNat 32 a.val) (BitVec.ofNat 32 b.val) = 0#1 := by
  have hne : BitVec.ofNat 32 a.val ≠ BitVec.ofNat 32 b.val := by
    intro hh
    have := congrArg BitVec.toNat hh
    rw [BitVec.toNat_ofNat, BitVec.toNat_ofNat] at this
    exact h (Fin.ext (by have := a.isLt; have := b.isLt; omega))
  show BitVec.ofBool (BitVec.ofNat 32 a.val == BitVec.ofNat 32 b.val) = 0#1
  rw [beq_false_of_ne hne]
  rfl

/-- The masked table of pair logits. -/
theorem table_apply (g : FVec Ideal S257734 .f32) (p : Fin 3782) (c : Fin 62) :
    table g (ix2 p c) = if pj p = c then g (ix1 (pairEdge p)) else ⊥ := by
  pointwise [table, pairDst_apply]
  rw [show id (constant (F := Ideal) S_ .f32 0xFF800000#32) ix0 = (⊥ : EReal) from word_bot]
  by_cases h : pj p = c
  · rw [if_pos h, h, show IntOp.cmpi .eq (BitVec.ofNat 32 c.val) (BitVec.ofNat 32 c.val) = 1#1 from by simp [IntOp.cmpi]]
    rfl
  · rw [if_neg h, eq_word_ne _ _ h]
    rfl

/-- The greatest pair logit into a channel of the first sample. -/
theorem tops_near (g : FVec Ideal S257734 .f32) (c : Fin 62) :
    tops g (ix1 (node c)) = Finset.univ.sup fun p : Fin 3782 => if pj p = c then g (ix1 (pairEdge p)) else ⊥ := by
  pointwise [tops, table_apply, word_bot]
  rw [dif_pos (show (node c).val < 62 from c.isLt)]
  rfl

/-- No pair enters any other node. -/
theorem tops_far (g : FVec Ideal S257734 .f32) (n : Fin 253952) (hn : 62 ≤ n.val) : tops g (ix1 n) = ⊥ := by
  pointwise [tops, table_apply, word_bot]
  rw [dif_neg (Nat.not_lt.mpr hn)]

/-- The greatest logit into a channel of the first sample. -/
theorem most_near (g : FVec Ideal S257734 .f32) (c : Fin 62) :
    most g (ix1 (node c)) = Finset.univ.sup fun i : Fin 62 => g (ix1 (edge i c)) := by
  pointwise [most, tops_near]
  exact sup_near (fun e => g (ix1 e)) c

/-- The greatest logit into any other node is its self-loop's. -/
theorem most_far (g : FVec Ideal S257734 .f32) (n : Fin 253952) (hn : 62 ≤ n.val) : most g (ix1 n) = g (ix1 (loop n)) := by
  pointwise [most]
  rw [tops_far g n hn]
  exact max_bot_right _

/-- An edge's exponential. -/
theorem weights_apply (g : FVec Ideal S257734 .f32) (e : Fin 257734) :
    weights g (ix1 e) = Ideal.exp (g (ix1 e) - most g (ix1 (stop pj e))) := by
  pointwise [weights, along_dst]

/-- The exponentials into a channel of the first sample. -/
theorem denoms_near (g : FVec Ideal S257734 .f32) (c : Fin 62) : denoms g (ix1 (node c)) = ∑ i : Fin 62, g (ix1 (edge i c)) := by
  refine (EdgeOps.scatter_vec _ _ targets g (stop pj) targets_apply (node c)).trans ?_
  rw [sum_near (fun e => g (ix1 e))]
  pointwise []

/-- The exponential into any other node. -/
theorem denoms_far (g : FVec Ideal S257734 .f32) (n : Fin 253952) (hn : 62 ≤ n.val) : denoms g (ix1 n) = g (ix1 (loop n)) := by
  refine (EdgeOps.scatter_vec _ _ targets g (stop pj) targets_apply n).trans ?_
  rw [sum_far (fun e => g (ix1 e)) n hn]
  pointwise []

/-- Whether a node lies in the first sample, as the reference asks it. -/
theorem slt_62 (n : Fin 253952) : IntOp.cmpi .slt (BitVec.ofNat 32 n.val) 62#32 = BitVec.ofBool (decide (n.val < 62)) := by
  show BitVec.ofBool (BitVec.slt (BitVec.ofNat 32 n.val) 62#32) = _
  rw [BitVec.slt, toInt_node, show (62#32 : BitVec 32).toInt = 62 from rfl]
  congr 1
  exact decide_eq_decide.mpr (by omega)

/-- What the denominator adds in the first sample … -/
theorem offset_near (c : Fin 62) : (offset (F := Ideal)) (ix1 (node c)) = Ideal.ofBits .f32 0x24E69595#32 := by
  pointwise [offset]
  rw [slt_62, decide_eq_true (show (node c).val < 62 from c.isLt)]
  rfl

/-- … and elsewhere. -/
theorem offset_far (n : Fin 253952) (hn : 62 ≤ n.val) : (offset (F := Ideal)) (ix1 n) = 0 := by
  pointwise [offset]
  rw [slt_62, decide_eq_false (Nat.not_lt.mpr hn)]
  rfl

/-- An edge's coefficient. -/
theorem coefs_apply (g : FVec Ideal S257734 .f32) (e : Fin 257734) :
    coefs g (ix1 e) = Ideal.div (g (ix1 e)) (denoms g (ix1 (stop pj e)) + (offset (F := Ideal)) (ix1 (stop pj e))) := by
  pointwise [coefs, along_dst]

/-- An edge's message. -/
theorem messages_apply (h : FVec Ideal S253952x64 .f32) (a : FVec Ideal S257734 .f32) (e : Fin 257734) (f : Fin 64) :
    messages h a (ix2 e f) = a (ix1 e) * h (ix2 (stop pi e) f) := by
  have hg : Host.gather gather_S253952x64_S257734x1_S257734x64_1_0_n_n_0_1_164 h (column (edges pairSrc)) (ix2 e f)
      = h (ix2 (stop pi e) f) := EdgeOps.gather_row _ h _ e f _ (column_apply pairSrc pi pairSrc_apply e)
  pointwise [messages]
  rw [hg]

/-- The messages into a channel of the first sample. -/
theorem sums_near (p : FVec Ideal S257734x64 .f32) (c : Fin 62) (f : Fin 64) :
    sums p (ix2 (node c) f) = ∑ i : Fin 62, p (ix2 (edge i c) f) := by
  refine (EdgeOps.scatter_row _ _ targets p (stop pj) targets_apply (node c) f).trans ?_
  rw [sum_near (fun e => p (ix2 e f))]
  pointwise []

/-- The message into any other node. -/
theorem sums_far (p : FVec Ideal S257734x64 .f32) (n : Fin 253952) (hn : 62 ≤ n.val) (f : Fin 64) :
    sums p (ix2 n f) = p (ix2 (loop n) f) := by
  refine (EdgeOps.scatter_row _ _ targets p (stop pj) targets_apply n f).trans ?_
  rw [sum_far (fun e => p (ix2 e f)) n hn]
  pointwise []

/-- Channel `c` of sample `b` as a node. -/
def nodeOf (b : Fin 4096) (c : Fin 62) : Fin 253952 := ⟨b.val * 62 + c.val, by have := b.isLt; have := c.isLt; omega⟩

/-- The result at sample `b`, channel `c`, feature `f`: that node's sum plus the bias. -/
theorem layout_apply (o : FVec Ideal S253952x64 .f32) (bias : FVec Ideal S64 .f32) (b : Fin 4096) (c : Fin 62) (f : Fin 64) :
    layout o bias (ix4 b 0 c f) = o (ix2 (nodeOf b c) f) + bias (ix1 f) := by
  pointwise [layout, nodeOf]

end Cert.Proof.StageValues

end
-- ==== Proof.Finite.lean ====
/- Which extended reals are real numbers, and that the layer's logits of real arrays are real. -/
module

public import proofs.«01_k».proof.Proof.Gen.Pre_finite
public import proofs.«01_k».proof.Proof.Layer

@[expose] public section

set_option maxRecDepth 16384

noncomputable section

namespace Cert.Proof.Finite

open Idealize.ShloMosaic

/-- The value is a real number, neither infinity. -/
def IsReal (v : EReal) : Prop := ∃ r : ℝ, v = (r : EReal)

/-- A sum of two real numbers is real. -/
theorem IsReal.add {u v : EReal} : IsReal u → IsReal v → IsReal (u + v)
  | ⟨a, ha⟩, ⟨b, hb⟩ => ⟨a + b, by rw [ha, hb, EReal.coe_add]⟩

/-- A product of real numbers is real. -/
theorem IsReal.mul {u v : EReal} : IsReal u → IsReal v → IsReal (u * v)
  | ⟨a, ha⟩, ⟨b, hb⟩ => ⟨a * b, by rw [ha, hb, EReal.coe_mul]⟩

/-- A finite sum of real numbers is real. -/
theorem IsReal.sum {n : ℕ} (v : Fin n → EReal) (h : ∀ k, IsReal (v k)) : IsReal (∑ k, v k) :=
  Finset.sum_induction v IsReal (fun _ _ => IsReal.add) ⟨0, EReal.coe_zero.symm⟩ fun k _ => h k

/-- The slope of the rectifier is a real number. -/
theorem slope_real : IsReal (Ideal.ofBits .f32 0x3E4CCCCD#32) := by
  unfold IsReal
  simp [Ideal.ofBits, Ideal.ieee]
  exact ⟨_, rfl⟩

/-- The rectifier of a real number is real. -/
theorem leaky_real {v : EReal} (h : IsReal v) : IsReal (Layer.leaky v) := by
  unfold Layer.leaky
  split
  · exact h
  · exact slope_real.mul h

/-- The linear map of real features under a real matrix is real. -/
theorem linear_real {n : ℕ} (x : Fin n → Fin 64 → EReal) (w : Fin 64 → Fin 64 → EReal) (hx : ∀ i k, IsReal (x i k))
    (hw : ∀ f k, IsReal (w f k)) (i : Fin n) (f : Fin 64) : IsReal (Layer.linear x w i f) :=
  IsReal.sum _ fun k => (hx i k).mul (hw f k)

/-- The score of real features is real. -/
theorem score_real {n : ℕ} (h : Fin n → Fin 64 → EReal) (a : Fin 64 → EReal) (hh : ∀ i f, IsReal (h i f))
    (ha : ∀ f, IsReal (a f)) (i : Fin n) : IsReal (Layer.score h a i) :=
  IsReal.sum _ fun f => (hh i f).mul (ha f)

/-- A value whose absolute value compares below plus infinity is a real number. -/
theorem real_of_lt (v : EReal) (h : Ideal.cmp .olt (max v (-v)) (Ideal.ofBits .f32 0x7F800000#32) = 1#1) : IsReal v := by
  have htop : Ideal.ofBits .f32 0x7F800000#32 = (⊤ : EReal) := by simp [Ideal.ofBits, Ideal.ieee]
  rw [htop] at h
  induction v using EReal.rec with
  | bot => simp [Ideal.cmp] at h
  | coe r => exact ⟨r, rfl⟩
  | top => simp [Ideal.cmp] at h

section
variable (x : FVec Ideal Pre_finite.S4096x1x62x64 .f32) (w : FVec Ideal Pre_finite.S64x64 .f32)
  (ats atd bias : FVec Ideal Pre_finite.S64 .f32)

/-- Under the precondition the input is real at every index. -/
theorem input_real (h : (Pre_finite.fn (F := Ideal) x w ats atd bias).1 = fun _ => 1#1) (j) : IsReal (x j) :=
  real_of_lt _ (congrFun h j)

/-- So is the weight matrix. -/
theorem matrix_real (h : (Pre_finite.fn (F := Ideal) x w ats atd bias).2.1 = fun _ => 1#1) (j) : IsReal (w j) :=
  real_of_lt _ (congrFun h j)

/-- So is the source attention vector. -/
theorem source_real (h : (Pre_finite.fn (F := Ideal) x w ats atd bias).2.2.1 = fun _ => 1#1) (j) : IsReal (ats j) :=
  real_of_lt _ (congrFun h j)

/-- So is the target attention vector. -/
theorem target_real (h : (Pre_finite.fn (F := Ideal) x w ats atd bias).2.2.2 = fun _ => 1#1) (j) : IsReal (atd j) :=
  real_of_lt _ (congrFun h j)
end

/-- The softmax of one real logit is one. -/
theorem alone {l : EReal} (h : IsReal l) : Ideal.div (Ideal.exp (l - l)) (Ideal.exp (l - l) + 0) = 1 := by
  obtain ⟨r, rfl⟩ := h
  have he : Ideal.exp ((r : EReal) - (r : EReal)) = 1 := by
    rw [← EReal.coe_sub, sub_self, Ideal.exp_coe, Real.exp_zero, EReal.coe_one]
  rw [he, add_zero]
  exact (Ideal.div_coe one_ne_zero 1).trans (by simp)

end Cert.Proof.Finite
end
-- ==== Proof.Reference.lean ====
/- The reference's result is the layer: attention on the first sample, the linear map on every other one. -/
module

public import proofs.«01_k».proof.Proof.StageValues
public import proofs.«01_k».proof.Proof.Finite

@[expose] public section

set_option maxRecDepth 16384

noncomputable section

namespace Cert.Proof.Reference

open Idealize.ShloMosaic Cert.ReferenceIdeal Cert.Proof.Stages Cert.Proof.EdgeList Cert.Proof.EdgeSum Cert.Proof.StageValues
open Cert.Proof.Finite

variable (x : FVec Ideal S4096x1x62x64 .f32) (w : FVec Ideal S64x64 .f32) (ats atd bias : FVec Ideal S64 .f32)

/-- The input as a function of sample, channel and feature. -/
def input (b : Fin 4096) (c : Fin 62) (k : Fin 64) : EReal := x (ix4 b 0 c k)
/-- The weight matrix as a function of output and input feature. -/
def matrix (f k : Fin 64) : EReal := w (ix2 f k)
/-- A vector as a function of its index. -/
def line (a : FVec Ideal S64 .f32) (f : Fin 64) : EReal := a (ix1 f)

/-- The node of a sample and channel has that sample. -/
theorem sample_nodeOf (b : Fin 4096) (c : Fin 62) : sample (nodeOf b c) = b :=
  Fin.ext (by show (b.val * 62 + c.val) / 62 = b.val; have := c.isLt; omega)

/-- And that channel. -/
theorem channel_nodeOf (b : Fin 4096) (c : Fin 62) : channel (nodeOf b c) = c :=
  Fin.ext (by show (b.val * 62 + c.val) % 62 = c.val; have := c.isLt; omega)

/-- The nodes of the first sample are the first 62. -/
theorem nodeOf_first (b : Fin 4096) (h : b.val = 0) (c : Fin 62) : nodeOf b c = node c :=
  Fin.ext (by show b.val * 62 + c.val = c.val; omega)

/-- A node of another sample is at least the 62nd. -/
theorem le_nodeOf (b : Fin 4096) (h : ¬ b.val = 0) (c : Fin 62) : 62 ≤ (nodeOf b c).val := by
  show 62 ≤ b.val * 62 + c.val; omega

/-- The features of a sample's channel are the linear map of that sample. -/
theorem feats_nodeOf (b : Fin 4096) (c : Fin 62) (f : Fin 64) :
    feats x w (ix2 (nodeOf b c) f) = Layer.linear (input x b) (matrix w) c f := by
  rw [feats_apply]
  unfold Layer.linear
  beta_reduce
  rw [sample_nodeOf, channel_nodeOf]
  rfl

/-- The score of a sample's channel is the score of its features. -/
theorem scores_nodeOf (a : FVec Ideal S64 .f32) (b : Fin 4096) (c : Fin 62) :
    scores (feats x w) a (ix1 (nodeOf b c)) = Layer.score (Layer.linear (input x b) (matrix w)) (line a) c := by
  rw [scores_apply]
  unfold Layer.score
  exact Finset.sum_congr rfl fun f _ => congrArg (· * a (ix1 f)) (feats_nodeOf x w b c f)

section First
variable (b : Fin 4096) (hb : b.val = 0)
include hb

/-- On the first sample the edge from channel `i` to channel `j` has the layer's logit. -/
theorem logits_first (i j : Fin 62) :
    logits (feats x w) ats atd (ix1 (edge i j))
      = Layer.logit (Layer.score (Layer.linear (input x b) (matrix w)) (line ats))
          (Layer.score (Layer.linear (input x b) (matrix w)) (line atd)) i j := by
  rw [logits_apply, stop_pi_edge, stop_pj_edge, ← nodeOf_first b hb i, ← nodeOf_first b hb j, scores_nodeOf, scores_nodeOf]
  rfl

/-- Its weight is the layer's. -/
theorem weights_first (i j : Fin 62) :
    weights (logits (feats x w) ats atd) (ix1 (edge i j))
      = Layer.weight (Layer.score (Layer.linear (input x b) (matrix w)) (line ats))
          (Layer.score (Layer.linear (input x b) (matrix w)) (line atd)) i j := by
  rw [weights_apply, stop_pj_edge, most_near]
  simp only [logits_first x w ats atd b hb]
  rfl

/-- Its coefficient is the layer's. -/
theorem coefs_first (i j : Fin 62) :
    coefs (weights (logits (feats x w) ats atd)) (ix1 (edge i j))
      = Layer.coef (Layer.score (Layer.linear (input x b) (matrix w)) (line ats))
          (Layer.score (Layer.linear (input x b) (matrix w)) (line atd)) i j := by
  rw [coefs_apply, stop_pj_edge, denoms_near, offset_near]
  simp only [weights_first x w ats atd b hb]
  rfl

/-- On the first sample the reference's sum at channel `j` is the attention. -/
theorem sums_first (j : Fin 62) (f : Fin 64) :
    sums (messages (feats x w) (coefs (weights (logits (feats x w) ats atd)))) (ix2 (nodeOf b j) f)
      = Layer.attend (Layer.linear (input x b) (matrix w)) (line ats) (line atd) j f := by
  rw [nodeOf_first b hb j, sums_near]
  unfold Layer.attend
  exact Finset.sum_congr rfl fun i _ => by
    rw [messages_apply, stop_pi_edge, coefs_first x w ats atd b hb, ← nodeOf_first b hb i, feats_nodeOf]
end First

section Other
variable (hx : ∀ j, IsReal (x j)) (hw : ∀ j, IsReal (w j)) (hs : ∀ j, IsReal (ats j)) (hd : ∀ j, IsReal (atd j))
include hx hw hs hd

/-- The logit of a self-loop is a real number. -/
theorem logits_real (b : Fin 4096) (c : Fin 62) : IsReal (logits (feats x w) ats atd (ix1 (loop (nodeOf b c)))) := by
  have hl : ∀ i f, IsReal (Layer.linear (input x b) (matrix w) i f) :=
    linear_real _ _ (fun _ _ => hx _) fun _ _ => hw _
  rw [logits_apply, stop_loop, stop_loop, scores_nodeOf, scores_nodeOf]
  exact leaky_real ((score_real _ _ hl (fun _ => hs _) c).add (score_real _ _ hl (fun _ => hd _) c))

/-- On every other sample a channel has its self-loop alone, whose coefficient is one: the sum is the linear map. -/
theorem sums_other (b : Fin 4096) (hb : ¬ b.val = 0) (c : Fin 62) (f : Fin 64) :
    sums (messages (feats x w) (coefs (weights (logits (feats x w) ats atd)))) (ix2 (nodeOf b c) f)
      = Layer.linear (input x b) (matrix w) c f := by
  have hn := le_nodeOf b hb c
  rw [sums_far _ _ hn, messages_apply, stop_loop, coefs_apply, stop_loop, denoms_far _ _ hn, offset_far _ hn, weights_apply,
    stop_loop, most_far _ _ hn, alone (logits_real x w ats atd hx hw hs hd b c), one_mul, feats_nodeOf]

/-- The reference's result, at a sample, channel and feature, is the layer's. -/
theorem whole_apply (b : Fin 4096) (c : Fin 62) (f : Fin 64) :
    whole x w ats atd bias (ix4 b 0 c f) = Layer.out (input x) (matrix w) (line ats) (line atd) (line bias) b c f := by
  unfold whole
  rw [layout_apply]
  by_cases hb : b.val = 0
  · rw [sums_first x w ats atd b hb, Layer.out_zero _ _ _ _ _ _ _ _ hb]
    rfl
  · rw [sums_other x w ats atd hx hw hs hd b hb, Layer.out_pos _ _ _ _ _ _ _ _ hb]
    rfl
end Other

end Cert.Proof.Reference
end
-- ==== Proof.Equal.lean ====
/- The kernel and the reference, run over the extended reals on the same arrays, end with the same result. -/
module

public import proofs.«01_k».proof.Defs
public import proofs.«01_k».proof.Proof.Array
public import proofs.«01_k».proof.Proof.Reference

@[expose] public section

set_option maxRecDepth 16384

noncomputable section

namespace Cert.Proof.Equal

open Idealize.ShloMosaic Idealize.SL.Sem

/-- The two results agree as arrays, when the input, the matrix and the two attention vectors are real. -/
theorem whole_result (x : FVec Ideal ReferenceIdeal.S4096x1x62x64 .f32) (w : FVec Ideal ReferenceIdeal.S64x64 .f32)
    (ats atd bias : FVec Ideal ReferenceIdeal.S64 .f32) (hx : ∀ j, Finite.IsReal (x j)) (hw : ∀ j, Finite.IsReal (w j))
    (hs : ∀ j, Finite.IsReal (ats j)) (hd : ∀ j, Finite.IsReal (atd j)) :
    Stages.whole x w ats atd bias = Array.result x w ats atd bias := by
  funext j
  obtain ⟨b, k, f, rfl⟩ : ∃ (b : Fin 4096) (k : Fin 62) (f : Fin 64), j = (ix4 b 0 k f : ReferenceIdeal.S4096x1x62x64.Idx) :=
    ⟨j 0, j 2, j 3, by
      refine (eq_ix4 (n0 := 4096) (n1 := 1) (n2 := 62) (n3 := 64) j).trans ?_
      congr 1
      exact Subsingleton.elim _ _⟩
  exact (Reference.whole_apply x w ats atd bias hx hw hs hd b k f).trans (Array.result_apply x w ats atd bias b k f).symm

/-- The kernel's result is its output array, widened to the result's type: over the reals the same array. -/
theorem widened (m : (ℓ : Loc KernelIdeal.nD KernelIdeal.τ KernelIdeal.sig) → Buf (Elt Ideal) ℓ) (c : Dev KernelIdeal.nD) :
    Pipeline.afterTail₀ KernelIdeal.cfgs (KernelIdeal.Gen.dats m) 0 (KernelIdeal.Gen.V0 m) [KernelIdeal.Gen.hostOps1] c
        KernelIdeal.main_v7
      = (KernelIdeal.Gen.dats m 0 c).arrAt 5 (KernelIdeal.cfgs 0).N := by
  unfold Pipeline.afterTail₀
  simp only [List.flatten_cons, List.flatten_nil, List.append_nil]
  after_results
  funext j
  exact congrFun (Pipeline.withArrays_arr (KernelIdeal.cfgs 0).spec KernelIdeal.Gen.launch0.win.arr_inj c (KernelIdeal.Gen.V0 m c)
    (fun w => (KernelIdeal.Gen.dats m 0 c).arrAt w (KernelIdeal.cfgs 0).N) 5) j

/-- From equal arguments, with the input, the matrix and the attention vectors finite, the kernel and the reference both
    run, keep their arguments, and end with equal results. -/
theorem algebraic : Cert.algebraic_KernelIdeal_ReferenceIdeal_pre_finite := by
  intro m g m' g' hpre hagree
  refine ⟨fun c => Array.result (m ((c.tc : Thread _ _).loc KernelIdeal.main_arg0)) (m ((c.tc : Thread _ _).loc KernelIdeal.main_arg1))
    (m ((c.tc : Thread _ _).loc KernelIdeal.main_arg2)) (m ((c.tc : Thread _ _).loc KernelIdeal.main_arg3))
    (m ((c.tc : Thread _ _).loc KernelIdeal.main_arg4)), ?_, ?_⟩
  · run_from Cert.KernelIdeal.Gen.run_main m g
    · exact (widened m c).trans (Array.final m c)
    · exact KernelIdeal.Gen.W_main_arg0 m _ c
    · exact KernelIdeal.Gen.W_main_arg1 m _ c
    · exact KernelIdeal.Gen.W_main_arg2 m _ c
    · exact KernelIdeal.Gen.W_main_arg3 m _ c
    · exact KernelIdeal.Gen.W_main_arg4 m _ c
  · refine (θ_run ReferenceIdeal.defs _ _).mono (fun r h c => ⟨(h c).1.trans ?_, (h c).2⟩)
      (ReferenceIdeal.Value.run (F := Ideal) m' g')
    obtain ⟨h0, h1, h2, h3, h4⟩ := hagree c
    obtain ⟨p0, p1, p2, p3⟩ := hpre c
    rw [Stages.whole_eq, h0, h1, h2, h3, h4]
    exact whole_result _ _ _ _ _ (Finite.input_real _ _ _ _ _ p0) (Finite.matrix_real _ _ _ _ _ p1)
      (Finite.source_real _ _ _ _ _ p2) (Finite.target_real _ _ _ _ _ p3)

end Cert.Proof.Equal

end
-- ==== Proof.lean ====
/- The certificate's proof. What each program does is proved in the modules of `Proof/`; this one assembles it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs, keeps its arguments and has no counters. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The certificate: the three programs run, keep their arguments and leave no counter behind, the idealized kernel is the
    kernel's own program, and over the extended reals it computes the reference's result on finite arrays. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ,
    frame_ri, fun m ρ _ => frame_ri m ρ trivial, trivial, Equal.algebraic⟩

end Cert.Proof

end
